-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted [hPre_admitted : Cert.Pre_admitted.Facts] (m : (ℓ : Loc Cert.KernelIdeal.nD Cert.KernelIdeal.τ Cert.KernelIdeal.sig) → Buf (Elt Ideal) ℓ) : Prop :=
  ∀ c : Dev Cert.KernelIdeal.nD,
    (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted [hPre_admitted : Cert.Pre_admitted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelSin (m : (ℓ : Loc Cert.KernelSin.nD Cert.KernelSin.τ Cert.KernelSin.sig) → Buf (Elt Bits) ℓ) : Prop :=
  True

def Pre_KernelSinIdeal (m : (ℓ : Loc Cert.KernelSinIdeal.nD Cert.KernelSinIdeal.τ Cert.KernelSinIdeal.sig) → Buf (Elt Ideal) ℓ) : Prop :=
  True

def Pre_KernelSinIdeal_admitted [hPre_admitted : Cert.Pre_admitted.Facts] (m : (ℓ : Loc Cert.KernelSinIdeal.nD Cert.KernelSinIdeal.τ Cert.KernelSinIdeal.sig) → Buf (Elt Ideal) ℓ) : Prop :=
  ∀ c : Dev Cert.KernelSinIdeal.nD,
    (Cert.Pre_admitted.fn (F := Ideal) (m ((c.tc : Thread Cert.KernelSinIdeal.nD Cert.KernelSinIdeal.τ).loc Cert.KernelSinIdeal.main_arg0)) (m ((c.tc : Thread Cert.KernelSinIdeal.nD Cert.KernelSinIdeal.τ).loc Cert.KernelSinIdeal.main_arg1)) (m ((c.tc : Thread Cert.KernelSinIdeal.nD Cert.KernelSinIdeal.τ).loc Cert.KernelSinIdeal.main_arg2)) (m ((c.tc : Thread Cert.KernelSinIdeal.nD Cert.KernelSinIdeal.τ).loc Cert.KernelSinIdeal.main_arg3)) (m ((c.tc : Thread Cert.KernelSinIdeal.nD Cert.KernelSinIdeal.τ).loc Cert.KernelSinIdeal.main_arg4)) (m ((c.tc : Thread Cert.KernelSinIdeal.nD Cert.KernelSinIdeal.τ).loc Cert.KernelSinIdeal.main_arg5))).1 = (fun _ => 1#1)
    ∧ (Cert.Pre_admitted.fn (F := Ideal) (m ((c.tc : Thread Cert.KernelSinIdeal.nD Cert.KernelSinIdeal.τ).loc Cert.KernelSinIdeal.main_arg0)) (m ((c.tc : Thread Cert.KernelSinIdeal.nD Cert.KernelSinIdeal.τ).loc Cert.KernelSinIdeal.main_arg1)) (m ((c.tc : Thread Cert.KernelSinIdeal.nD Cert.KernelSinIdeal.τ).loc Cert.KernelSinIdeal.main_arg2)) (m ((c.tc : Thread Cert.KernelSinIdeal.nD Cert.KernelSinIdeal.τ).loc Cert.KernelSinIdeal.main_arg3)) (m ((c.tc : Thread Cert.KernelSinIdeal.nD Cert.KernelSinIdeal.τ).loc Cert.KernelSinIdeal.main_arg4)) (m ((c.tc : Thread Cert.KernelSinIdeal.nD Cert.KernelSinIdeal.τ).loc Cert.KernelSinIdeal.main_arg5))).2.1 = (fun _ => 1#1)
    ∧ (Cert.Pre_admitted.fn (F := Ideal) (m ((c.tc : Thread Cert.KernelSinIdeal.nD Cert.KernelSinIdeal.τ).loc Cert.KernelSinIdeal.main_arg0)) (m ((c.tc : Thread Cert.KernelSinIdeal.nD Cert.KernelSinIdeal.τ).loc Cert.KernelSinIdeal.main_arg1)) (m ((c.tc : Thread Cert.KernelSinIdeal.nD Cert.KernelSinIdeal.τ).loc Cert.KernelSinIdeal.main_arg2)) (m ((c.tc : Thread Cert.KernelSinIdeal.nD Cert.KernelSinIdeal.τ).loc Cert.KernelSinIdeal.main_arg3)) (m ((c.tc : Thread Cert.KernelSinIdeal.nD Cert.KernelSinIdeal.τ).loc Cert.KernelSinIdeal.main_arg4)) (m ((c.tc : Thread Cert.KernelSinIdeal.nD Cert.KernelSinIdeal.τ).loc Cert.KernelSinIdeal.main_arg5))).2.2.1 = (fun _ => 1#1)
    ∧ (Cert.Pre_admitted.fn (F := Ideal) (m ((c.tc : Thread Cert.KernelSinIdeal.nD Cert.KernelSinIdeal.τ).loc Cert.KernelSinIdeal.main_arg0)) (m ((c.tc : Thread Cert.KernelSinIdeal.nD Cert.KernelSinIdeal.τ).loc Cert.KernelSinIdeal.main_arg1)) (m ((c.tc : Thread Cert.KernelSinIdeal.nD Cert.KernelSinIdeal.τ).loc Cert.KernelSinIdeal.main_arg2)) (m ((c.tc : Thread Cert.KernelSinIdeal.nD Cert.KernelSinIdeal.τ).loc Cert.KernelSinIdeal.main_arg3)) (m ((c.tc : Thread Cert.KernelSinIdeal.nD Cert.KernelSinIdeal.τ).loc Cert.KernelSinIdeal.main_arg4)) (m ((c.tc : Thread Cert.KernelSinIdeal.nD Cert.KernelSinIdeal.τ).loc Cert.KernelSinIdeal.main_arg5))).2.2.2 = (fun _ => 1#1)

def Pre_ReferenceSinIdeal (m : (ℓ : Loc Cert.ReferenceSinIdeal.nD Cert.ReferenceSinIdeal.τ Cert.ReferenceSinIdeal.sig) → Buf (Elt Ideal) ℓ) : Prop :=
  True

def Pre_ReferenceSinIdeal_admitted [hPre_admitted : Cert.Pre_admitted.Facts] (m : (ℓ : Loc Cert.ReferenceSinIdeal.nD Cert.ReferenceSinIdeal.τ Cert.ReferenceSinIdeal.sig) → Buf (Elt Ideal) ℓ) : Prop :=
  ∀ c : Dev Cert.ReferenceSinIdeal.nD,
    (Cert.Pre_admitted.fn (F := Ideal) (m ((c.tc : Thread Cert.ReferenceSinIdeal.nD Cert.ReferenceSinIdeal.τ).loc Cert.ReferenceSinIdeal.main_arg0)) (m ((c.tc : Thread Cert.ReferenceSinIdeal.nD Cert.ReferenceSinIdeal.τ).loc Cert.ReferenceSinIdeal.main_arg1)) (m ((c.tc : Thread Cert.ReferenceSinIdeal.nD Cert.ReferenceSinIdeal.τ).loc Cert.ReferenceSinIdeal.main_arg2)) (m ((c.tc : Thread Cert.ReferenceSinIdeal.nD Cert.ReferenceSinIdeal.τ).loc Cert.ReferenceSinIdeal.main_arg3)) (m ((c.tc : Thread Cert.ReferenceSinIdeal.nD Cert.ReferenceSinIdeal.τ).loc Cert.ReferenceSinIdeal.main_arg4)) (m ((c.tc : Thread Cert.ReferenceSinIdeal.nD Cert.ReferenceSinIdeal.τ).loc Cert.ReferenceSinIdeal.main_arg5))).1 = (fun _ => 1#1)
    ∧ (Cert.Pre_admitted.fn (F := Ideal) (m ((c.tc : Thread Cert.ReferenceSinIdeal.nD Cert.ReferenceSinIdeal.τ).loc Cert.ReferenceSinIdeal.main_arg0)) (m ((c.tc : Thread Cert.ReferenceSinIdeal.nD Cert.ReferenceSinIdeal.τ).loc Cert.ReferenceSinIdeal.main_arg1)) (m ((c.tc : Thread Cert.ReferenceSinIdeal.nD Cert.ReferenceSinIdeal.τ).loc Cert.ReferenceSinIdeal.main_arg2)) (m ((c.tc : Thread Cert.ReferenceSinIdeal.nD Cert.ReferenceSinIdeal.τ).loc Cert.ReferenceSinIdeal.main_arg3)) (m ((c.tc : Thread Cert.ReferenceSinIdeal.nD Cert.ReferenceSinIdeal.τ).loc Cert.ReferenceSinIdeal.main_arg4)) (m ((c.tc : Thread Cert.ReferenceSinIdeal.nD Cert.ReferenceSinIdeal.τ).loc Cert.ReferenceSinIdeal.main_arg5))).2.1 = (fun _ => 1#1)
    ∧ (Cert.Pre_admitted.fn (F := Ideal) (m ((c.tc : Thread Cert.ReferenceSinIdeal.nD Cert.ReferenceSinIdeal.τ).loc Cert.ReferenceSinIdeal.main_arg0)) (m ((c.tc : Thread Cert.ReferenceSinIdeal.nD Cert.ReferenceSinIdeal.τ).loc Cert.ReferenceSinIdeal.main_arg1)) (m ((c.tc : Thread Cert.ReferenceSinIdeal.nD Cert.ReferenceSinIdeal.τ).loc Cert.ReferenceSinIdeal.main_arg2)) (m ((c.tc : Thread Cert.ReferenceSinIdeal.nD Cert.ReferenceSinIdeal.τ).loc Cert.ReferenceSinIdeal.main_arg3)) (m ((c.tc : Thread Cert.ReferenceSinIdeal.nD Cert.ReferenceSinIdeal.τ).loc Cert.ReferenceSinIdeal.main_arg4)) (m ((c.tc : Thread Cert.ReferenceSinIdeal.nD Cert.ReferenceSinIdeal.τ).loc Cert.ReferenceSinIdeal.main_arg5))).2.2.1 = (fun _ => 1#1)
    ∧ (Cert.Pre_admitted.fn (F := Ideal) (m ((c.tc : Thread Cert.ReferenceSinIdeal.nD Cert.ReferenceSinIdeal.τ).loc Cert.ReferenceSinIdeal.main_arg0)) (m ((c.tc : Thread Cert.ReferenceSinIdeal.nD Cert.ReferenceSinIdeal.τ).loc Cert.ReferenceSinIdeal.main_arg1)) (m ((c.tc : Thread Cert.ReferenceSinIdeal.nD Cert.ReferenceSinIdeal.τ).loc Cert.ReferenceSinIdeal.main_arg2)) (m ((c.tc : Thread Cert.ReferenceSinIdeal.nD Cert.ReferenceSinIdeal.τ).loc Cert.ReferenceSinIdeal.main_arg3)) (m ((c.tc : Thread Cert.ReferenceSinIdeal.nD Cert.ReferenceSinIdeal.τ).loc Cert.ReferenceSinIdeal.main_arg4)) (m ((c.tc : Thread Cert.ReferenceSinIdeal.nD Cert.ReferenceSinIdeal.τ).loc Cert.ReferenceSinIdeal.main_arg5))).2.2.2 = (fun _ => 1#1)

def Pre_QuarterSineIdeal (m : (ℓ : Loc Cert.QuarterSineIdeal.nD Cert.QuarterSineIdeal.τ Cert.QuarterSineIdeal.sig) → Buf (Elt Ideal) ℓ) : Prop :=
  True

def Pre_QuarterSineIdeal_phases [hPre_phases : Cert.Pre_phases.Facts] (m : (ℓ : Loc Cert.QuarterSineIdeal.nD Cert.QuarterSineIdeal.τ Cert.QuarterSineIdeal.sig) → Buf (Elt Ideal) ℓ) : Prop :=
  ∀ c : Dev Cert.QuarterSineIdeal.nD,
    (Cert.Pre_phases.fn (F := Ideal) (m ((c.tc : Thread Cert.QuarterSineIdeal.nD Cert.QuarterSineIdeal.τ).loc Cert.QuarterSineIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_admitted [hKernelIdeal : Cert.KernelIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admitted [hReferenceIdeal : Cert.ReferenceIdeal.Facts] [hPre_admitted : Cert.Pre_admitted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelSin [hKernelSin : Cert.KernelSin.Facts] : Prop :=
  ∀ (m : (ℓ : Loc Cert.KernelSin.nD Cert.KernelSin.τ Cert.KernelSin.sig) → Buf (Elt Bits) ℓ) (g : Dev Cert.KernelSin.nD → PrngReg), Pre_KernelSin m →
    θ_run (Cert.KernelSin.defs (F := Bits)) (onTc (τ := Cert.KernelSin.τ) (Cert.KernelSin.main (F := Bits))) ⟨m, fun _ => 0, g⟩ (fun r => (∀ c : Dev Cert.KernelSin.nD,
      r.2.mem ((c.tc : Thread Cert.KernelSin.nD Cert.KernelSin.τ).loc Cert.KernelSin.main_arg0) = m ((c.tc : Thread Cert.KernelSin.nD Cert.KernelSin.τ).loc Cert.KernelSin.main_arg0)
      ∧ r.2.mem ((c.tc : Thread Cert.KernelSin.nD Cert.KernelSin.τ).loc Cert.KernelSin.main_arg1) = m ((c.tc : Thread Cert.KernelSin.nD Cert.KernelSin.τ).loc Cert.KernelSin.main_arg1)
      ∧ r.2.mem ((c.tc : Thread Cert.KernelSin.nD Cert.KernelSin.τ).loc Cert.KernelSin.main_arg2) = m ((c.tc : Thread Cert.KernelSin.nD Cert.KernelSin.τ).loc Cert.KernelSin.main_arg2)
      ∧ r.2.mem ((c.tc : Thread Cert.KernelSin.nD Cert.KernelSin.τ).loc Cert.KernelSin.main_arg3) = m ((c.tc : Thread Cert.KernelSin.nD Cert.KernelSin.τ).loc Cert.KernelSin.main_arg3)
      ∧ r.2.mem ((c.tc : Thread Cert.KernelSin.nD Cert.KernelSin.τ).loc Cert.KernelSin.main_arg4) = m ((c.tc : Thread Cert.KernelSin.nD Cert.KernelSin.τ).loc Cert.KernelSin.main_arg4)
      ∧ r.2.mem ((c.tc : Thread Cert.KernelSin.nD Cert.KernelSin.τ).loc Cert.KernelSin.main_arg5) = m ((c.tc : Thread Cert.KernelSin.nD Cert.KernelSin.τ).loc Cert.KernelSin.main_arg5))
      ∧ r.2.sem = fun _ => 0)

def quiescent_KernelSinIdeal [hKernelSinIdeal : Cert.KernelSinIdeal.Facts] : Prop :=
  ∀ (m : (ℓ : Loc Cert.KernelSinIdeal.nD Cert.KernelSinIdeal.τ Cert.KernelSinIdeal.sig) → Buf (Elt Ideal) ℓ) (g : Dev Cert.KernelSinIdeal.nD → PrngReg), Pre_KernelSinIdeal m →
    θ_run (Cert.KernelSinIdeal.defs (F := Ideal)) (onTc (τ := Cert.KernelSinIdeal.τ) (Cert.KernelSinIdeal.main (F := Ideal))) ⟨m, fun _ => 0, g⟩ (fun r => (∀ c : Dev Cert.KernelSinIdeal.nD,
      r.2.mem ((c.tc : Thread Cert.KernelSinIdeal.nD Cert.KernelSinIdeal.τ).loc Cert.KernelSinIdeal.main_arg0) = m ((c.tc : Thread Cert.KernelSinIdeal.nD Cert.KernelSinIdeal.τ).loc Cert.KernelSinIdeal.main_arg0)
      ∧ r.2.mem ((c.tc : Thread Cert.KernelSinIdeal.nD Cert.KernelSinIdeal.τ).loc Cert.KernelSinIdeal.main_arg1) = m ((c.tc : Thread Cert.KernelSinIdeal.nD Cert.KernelSinIdeal.τ).loc Cert.KernelSinIdeal.main_arg1)
      ∧ r.2.mem ((c.tc : Thread Cert.KernelSinIdeal.nD Cert.KernelSinIdeal.τ).loc Cert.KernelSinIdeal.main_arg2) = m ((c.tc : Thread Cert.KernelSinIdeal.nD Cert.KernelSinIdeal.τ).loc Cert.KernelSinIdeal.main_arg2)
      ∧ r.2.mem ((c.tc : Thread Cert.KernelSinIdeal.nD Cert.KernelSinIdeal.τ).loc Cert.KernelSinIdeal.main_arg3) = m ((c.tc : Thread Cert.KernelSinIdeal.nD Cert.KernelSinIdeal.τ).loc Cert.KernelSinIdeal.main_arg3)
      ∧ r.2.mem ((c.tc : Thread Cert.KernelSinIdeal.nD Cert.KernelSinIdeal.τ).loc Cert.KernelSinIdeal.main_arg4) = m ((c.tc : Thread Cert.KernelSinIdeal.nD Cert.KernelSinIdeal.τ).loc Cert.KernelSinIdeal.main_arg4)
      ∧ r.2.mem ((c.tc : Thread Cert.KernelSinIdeal.nD Cert.KernelSinIdeal.τ).loc Cert.KernelSinIdeal.main_arg5) = m ((c.tc : Thread Cert.KernelSinIdeal.nD Cert.KernelSinIdeal.τ).loc Cert.KernelSinIdeal.main_arg5))
      ∧ r.2.sem = fun _ => 0)

def quiescent_KernelSinIdeal_pre_admitted [hKernelSinIdeal : Cert.KernelSinIdeal.Facts] [hPre_admitted : Cert.Pre_admitted.Facts] : Prop :=
  ∀ (m : (ℓ : Loc Cert.KernelSinIdeal.nD Cert.KernelSinIdeal.τ Cert.KernelSinIdeal.sig) → Buf (Elt Ideal) ℓ) (g : Dev Cert.KernelSinIdeal.nD → PrngReg), Pre_KernelSinIdeal_admitted m →
    θ_run (Cert.KernelSinIdeal.defs (F := Ideal)) (onTc (τ := Cert.KernelSinIdeal.τ) (Cert.KernelSinIdeal.main (F := Ideal))) ⟨m, fun _ => 0, g⟩ (fun r => (∀ c : Dev Cert.KernelSinIdeal.nD,
      r.2.mem ((c.tc : Thread Cert.KernelSinIdeal.nD Cert.KernelSinIdeal.τ).loc Cert.KernelSinIdeal.main_arg0) = m ((c.tc : Thread Cert.KernelSinIdeal.nD Cert.KernelSinIdeal.τ).loc Cert.KernelSinIdeal.main_arg0)
      ∧ r.2.mem ((c.tc : Thread Cert.KernelSinIdeal.nD Cert.KernelSinIdeal.τ).loc Cert.KernelSinIdeal.main_arg1) = m ((c.tc : Thread Cert.KernelSinIdeal.nD Cert.KernelSinIdeal.τ).loc Cert.KernelSinIdeal.main_arg1)
      ∧ r.2.mem ((c.tc : Thread Cert.KernelSinIdeal.nD Cert.KernelSinIdeal.τ).loc Cert.KernelSinIdeal.main_arg2) = m ((c.tc : Thread Cert.KernelSinIdeal.nD Cert.KernelSinIdeal.τ).loc Cert.KernelSinIdeal.main_arg2)
      ∧ r.2.mem ((c.tc : Thread Cert.KernelSinIdeal.nD Cert.KernelSinIdeal.τ).loc Cert.KernelSinIdeal.main_arg3) = m ((c.tc : Thread Cert.KernelSinIdeal.nD Cert.KernelSinIdeal.τ).loc Cert.KernelSinIdeal.main_arg3)
      ∧ r.2.mem ((c.tc : Thread Cert.KernelSinIdeal.nD Cert.KernelSinIdeal.τ).loc Cert.KernelSinIdeal.main_arg4) = m ((c.tc : Thread Cert.KernelSinIdeal.nD Cert.KernelSinIdeal.τ).loc Cert.KernelSinIdeal.main_arg4)
      ∧ r.2.mem ((c.tc : Thread Cert.KernelSinIdeal.nD Cert.KernelSinIdeal.τ).loc Cert.KernelSinIdeal.main_arg5) = m ((c.tc : Thread Cert.KernelSinIdeal.nD Cert.KernelSinIdeal.τ).loc Cert.KernelSinIdeal.main_arg5))
      ∧ r.2.sem = fun _ => 0)

def quiescent_ReferenceSinIdeal [hReferenceSinIdeal : Cert.ReferenceSinIdeal.Facts] : Prop :=
  ∀ (m : (ℓ : Loc Cert.ReferenceSinIdeal.nD Cert.ReferenceSinIdeal.τ Cert.ReferenceSinIdeal.sig) → Buf (Elt Ideal) ℓ) (g : Dev Cert.ReferenceSinIdeal.nD → PrngReg), Pre_ReferenceSinIdeal m →
    θ_run (Cert.ReferenceSinIdeal.defs (F := Ideal)) (onTc (τ := Cert.ReferenceSinIdeal.τ) (Cert.ReferenceSinIdeal.main (F := Ideal))) ⟨m, fun _ => 0, g⟩ (fun r => (∀ c : Dev Cert.ReferenceSinIdeal.nD,
      r.2.mem ((c.tc : Thread Cert.ReferenceSinIdeal.nD Cert.ReferenceSinIdeal.τ).loc Cert.ReferenceSinIdeal.main_arg0) = m ((c.tc : Thread Cert.ReferenceSinIdeal.nD Cert.ReferenceSinIdeal.τ).loc Cert.ReferenceSinIdeal.main_arg0)
      ∧ r.2.mem ((c.tc : Thread Cert.ReferenceSinIdeal.nD Cert.ReferenceSinIdeal.τ).loc Cert.ReferenceSinIdeal.main_arg1) = m ((c.tc : Thread Cert.ReferenceSinIdeal.nD Cert.ReferenceSinIdeal.τ).loc Cert.ReferenceSinIdeal.main_arg1)
      ∧ r.2.mem ((c.tc : Thread Cert.ReferenceSinIdeal.nD Cert.ReferenceSinIdeal.τ).loc Cert.ReferenceSinIdeal.main_arg2) = m ((c.tc : Thread Cert.ReferenceSinIdeal.nD Cert.ReferenceSinIdeal.τ).loc Cert.ReferenceSinIdeal.main_arg2)
      ∧ r.2.mem ((c.tc : Thread Cert.ReferenceSinIdeal.nD Cert.ReferenceSinIdeal.τ).loc Cert.ReferenceSinIdeal.main_arg3) = m ((c.tc : Thread Cert.ReferenceSinIdeal.nD Cert.ReferenceSinIdeal.τ).loc Cert.ReferenceSinIdeal.main_arg3)
      ∧ r.2.mem ((c.tc : Thread Cert.ReferenceSinIdeal.nD Cert.ReferenceSinIdeal.τ).loc Cert.ReferenceSinIdeal.main_arg4) = m ((c.tc : Thread Cert.ReferenceSinIdeal.nD Cert.ReferenceSinIdeal.τ).loc Cert.ReferenceSinIdeal.main_arg4)
      ∧ r.2.mem ((c.tc : Thread Cert.ReferenceSinIdeal.nD Cert.ReferenceSinIdeal.τ).loc Cert.ReferenceSinIdeal.main_arg5) = m ((c.tc : Thread Cert.ReferenceSinIdeal.nD Cert.ReferenceSinIdeal.τ).loc Cert.ReferenceSinIdeal.main_arg5))
      ∧ r.2.sem = fun _ => 0)

def quiescent_ReferenceSinIdeal_pre_admitted [hReferenceSinIdeal : Cert.ReferenceSinIdeal.Facts] [hPre_admitted : Cert.Pre_admitted.Facts] : Prop :=
  ∀ (m : (ℓ : Loc Cert.ReferenceSinIdeal.nD Cert.ReferenceSinIdeal.τ Cert.ReferenceSinIdeal.sig) → Buf (Elt Ideal) ℓ) (g : Dev Cert.ReferenceSinIdeal.nD → PrngReg), Pre_ReferenceSinIdeal_admitted m →
    θ_run (Cert.ReferenceSinIdeal.defs (F := Ideal)) (onTc (τ := Cert.ReferenceSinIdeal.τ) (Cert.ReferenceSinIdeal.main (F := Ideal))) ⟨m, fun _ => 0, g⟩ (fun r => (∀ c : Dev Cert.ReferenceSinIdeal.nD,
      r.2.mem ((c.tc : Thread Cert.ReferenceSinIdeal.nD Cert.ReferenceSinIdeal.τ).loc Cert.ReferenceSinIdeal.main_arg0) = m ((c.tc : Thread Cert.ReferenceSinIdeal.nD Cert.ReferenceSinIdeal.τ).loc Cert.ReferenceSinIdeal.main_arg0)
      ∧ r.2.mem ((c.tc : Thread Cert.ReferenceSinIdeal.nD Cert.ReferenceSinIdeal.τ).loc Cert.ReferenceSinIdeal.main_arg1) = m ((c.tc : Thread Cert.ReferenceSinIdeal.nD Cert.ReferenceSinIdeal.τ).loc Cert.ReferenceSinIdeal.main_arg1)
      ∧ r.2.mem ((c.tc : Thread Cert.ReferenceSinIdeal.nD Cert.ReferenceSinIdeal.τ).loc Cert.ReferenceSinIdeal.main_arg2) = m ((c.tc : Thread Cert.ReferenceSinIdeal.nD Cert.ReferenceSinIdeal.τ).loc Cert.ReferenceSinIdeal.main_arg2)
      ∧ r.2.mem ((c.tc : Thread Cert.ReferenceSinIdeal.nD Cert.ReferenceSinIdeal.τ).loc Cert.ReferenceSinIdeal.main_arg3) = m ((c.tc : Thread Cert.ReferenceSinIdeal.nD Cert.ReferenceSinIdeal.τ).loc Cert.ReferenceSinIdeal.main_arg3)
      ∧ r.2.mem ((c.tc : Thread Cert.ReferenceSinIdeal.nD Cert.ReferenceSinIdeal.τ).loc Cert.ReferenceSinIdeal.main_arg4) = m ((c.tc : Thread Cert.ReferenceSinIdeal.nD Cert.ReferenceSinIdeal.τ).loc Cert.ReferenceSinIdeal.main_arg4)
      ∧ r.2.mem ((c.tc : Thread Cert.ReferenceSinIdeal.nD Cert.ReferenceSinIdeal.τ).loc Cert.ReferenceSinIdeal.main_arg5) = m ((c.tc : Thread Cert.ReferenceSinIdeal.nD Cert.ReferenceSinIdeal.τ).loc Cert.ReferenceSinIdeal.main_arg5))
      ∧ r.2.sem = fun _ => 0)

def quiescent_QuarterSineIdeal [hQuarterSineIdeal : Cert.QuarterSineIdeal.Facts] : Prop :=
  ∀ (m : (ℓ : Loc Cert.QuarterSineIdeal.nD Cert.QuarterSineIdeal.τ Cert.QuarterSineIdeal.sig) → Buf (Elt Ideal) ℓ) (g : Dev Cert.QuarterSineIdeal.nD → PrngReg), Pre_QuarterSineIdeal m →
    θ_run (Cert.QuarterSineIdeal.defs (F := Ideal)) (onTc (τ := Cert.QuarterSineIdeal.τ) (Cert.QuarterSineIdeal.main (F := Ideal))) ⟨m, fun _ => 0, g⟩ (fun r => (∀ c : Dev Cert.QuarterSineIdeal.nD,
      r.2.mem ((c.tc : Thread Cert.QuarterSineIdeal.nD Cert.QuarterSineIdeal.τ).loc Cert.QuarterSineIdeal.main_arg0) = m ((c.tc : Thread Cert.QuarterSineIdeal.nD Cert.QuarterSineIdeal.τ).loc Cert.QuarterSineIdeal.main_arg0))
      ∧ r.2.sem = fun _ => 0)

def quiescent_QuarterSineIdeal_pre_phases [hQuarterSineIdeal : Cert.QuarterSineIdeal.Facts] [hPre_phases : Cert.Pre_phases.Facts] : Prop :=
  ∀ (m : (ℓ : Loc Cert.QuarterSineIdeal.nD Cert.QuarterSineIdeal.τ Cert.QuarterSineIdeal.sig) → Buf (Elt Ideal) ℓ) (g : Dev Cert.QuarterSineIdeal.nD → PrngReg), Pre_QuarterSineIdeal_phases m →
    θ_run (Cert.QuarterSineIdeal.defs (F := Ideal)) (onTc (τ := Cert.QuarterSineIdeal.τ) (Cert.QuarterSineIdeal.main (F := Ideal))) ⟨m, fun _ => 0, g⟩ (fun r => (∀ c : Dev Cert.QuarterSineIdeal.nD,
      r.2.mem ((c.tc : Thread Cert.QuarterSineIdeal.nD Cert.QuarterSineIdeal.τ).loc Cert.QuarterSineIdeal.main_arg0) = m ((c.tc : Thread Cert.QuarterSineIdeal.nD Cert.QuarterSineIdeal.τ).loc Cert.QuarterSineIdeal.main_arg0))
      ∧ r.2.sem = fun _ => 0)

def preserves_Kernel_KernelIdeal : Prop :=
  IdealRules.named_const.Statement Cert.KernelIdeal.κ "inv_r_cut" .f32 0x3E4CCCCD#32 ((1 / 5 : ℝ) : EReal)

def algebraic_KernelIdeal_ReferenceIdeal_pre_admitted [hKernelIdeal : Cert.KernelIdeal.Facts] [hReferenceIdeal : Cert.ReferenceIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelSin_KernelSinIdeal : Prop :=
  IdealRules.named_const.Statement Cert.KernelSinIdeal.κ "inv_r_cut" .f32 0x3E4CCCCD#32 ((1 / 5 : ℝ) : EReal)

def algebraic_KernelSinIdeal_ReferenceSinIdeal_pre_admitted [hKernelSinIdeal : Cert.KernelSinIdeal.Facts] [hReferenceSinIdeal : Cert.ReferenceSinIdeal.Facts] [hPre_admitted : Cert.Pre_admitted.Facts] : Prop :=
  ∀ (m : (ℓ : Loc Cert.KernelSinIdeal.nD Cert.KernelSinIdeal.τ Cert.KernelSinIdeal.sig) → Buf (Elt Ideal) ℓ) (g : Dev Cert.KernelSinIdeal.nD → PrngReg)
    (m' : (ℓ : Loc Cert.ReferenceSinIdeal.nD Cert.ReferenceSinIdeal.τ Cert.ReferenceSinIdeal.sig) → Buf (Elt Ideal) ℓ) (g' : Dev Cert.ReferenceSinIdeal.nD → PrngReg), Pre_KernelSinIdeal_admitted m →
    (∀ c : Dev Cert.KernelSinIdeal.nD,
      m' ((c.tc : Thread Cert.ReferenceSinIdeal.nD Cert.ReferenceSinIdeal.τ).loc Cert.ReferenceSinIdeal.main_arg0) = m ((c.tc : Thread Cert.KernelSinIdeal.nD Cert.KernelSinIdeal.τ).loc Cert.KernelSinIdeal.main_arg0)
      ∧ m' ((c.tc : Thread Cert.ReferenceSinIdeal.nD Cert.ReferenceSinIdeal.τ).loc Cert.ReferenceSinIdeal.main_arg1) = m ((c.tc : Thread Cert.KernelSinIdeal.nD Cert.KernelSinIdeal.τ).loc Cert.KernelSinIdeal.main_arg1)
      ∧ m' ((c.tc : Thread Cert.ReferenceSinIdeal.nD Cert.ReferenceSinIdeal.τ).loc Cert.ReferenceSinIdeal.main_arg2) = m ((c.tc : Thread Cert.KernelSinIdeal.nD Cert.KernelSinIdeal.τ).loc Cert.KernelSinIdeal.main_arg2)
      ∧ m' ((c.tc : Thread Cert.ReferenceSinIdeal.nD Cert.ReferenceSinIdeal.τ).loc Cert.ReferenceSinIdeal.main_arg3) = m ((c.tc : Thread Cert.KernelSinIdeal.nD Cert.KernelSinIdeal.τ).loc Cert.KernelSinIdeal.main_arg3)
      ∧ m' ((c.tc : Thread Cert.ReferenceSinIdeal.nD Cert.ReferenceSinIdeal.τ).loc Cert.ReferenceSinIdeal.main_arg4) = m ((c.tc : Thread Cert.KernelSinIdeal.nD Cert.KernelSinIdeal.τ).loc Cert.KernelSinIdeal.main_arg4)
      ∧ m' ((c.tc : Thread Cert.ReferenceSinIdeal.nD Cert.ReferenceSinIdeal.τ).loc Cert.ReferenceSinIdeal.main_arg5) = m ((c.tc : Thread Cert.KernelSinIdeal.nD Cert.KernelSinIdeal.τ).loc Cert.KernelSinIdeal.main_arg5)) →
    ∃ (v0 : (c : Dev Cert.KernelSinIdeal.nD) → Buf (Elt Ideal) ((c.tc : Thread Cert.KernelSinIdeal.nD Cert.KernelSinIdeal.τ).loc Cert.KernelSinIdeal.main_v0)),
      θ_run (Cert.KernelSinIdeal.defs (F := Ideal)) (onTc (τ := Cert.KernelSinIdeal.τ) (Cert.KernelSinIdeal.main (F := Ideal))) ⟨m, fun _ => 0, g⟩ (fun r => ∀ c : Dev Cert.KernelSinIdeal.nD,
          r.2.mem ((c.tc : Thread Cert.KernelSinIdeal.nD Cert.KernelSinIdeal.τ).loc Cert.KernelSinIdeal.main_v0) = v0 c
          ∧ r.2.mem ((c.tc : Thread Cert.KernelSinIdeal.nD Cert.KernelSinIdeal.τ).loc Cert.KernelSinIdeal.main_arg0) = m ((c.tc : Thread Cert.KernelSinIdeal.nD Cert.KernelSinIdeal.τ).loc Cert.KernelSinIdeal.main_arg0)
          ∧ r.2.mem ((c.tc : Thread Cert.KernelSinIdeal.nD Cert.KernelSinIdeal.τ).loc Cert.KernelSinIdeal.main_arg1) = m ((c.tc : Thread Cert.KernelSinIdeal.nD Cert.KernelSinIdeal.τ).loc Cert.KernelSinIdeal.main_arg1)
          ∧ r.2.mem ((c.tc : Thread Cert.KernelSinIdeal.nD Cert.KernelSinIdeal.τ).loc Cert.KernelSinIdeal.main_arg2) = m ((c.tc : Thread Cert.KernelSinIdeal.nD Cert.KernelSinIdeal.τ).loc Cert.KernelSinIdeal.main_arg2)
          ∧ r.2.mem ((c.tc : Thread Cert.KernelSinIdeal.nD Cert.KernelSinIdeal.τ).loc Cert.KernelSinIdeal.main_arg3) = m ((c.tc : Thread Cert.KernelSinIdeal.nD Cert.KernelSinIdeal.τ).loc Cert.KernelSinIdeal.main_arg3)
          ∧ r.2.mem ((c.tc : Thread Cert.KernelSinIdeal.nD Cert.KernelSinIdeal.τ).loc Cert.KernelSinIdeal.main_arg4) = m ((c.tc : Thread Cert.KernelSinIdeal.nD Cert.KernelSinIdeal.τ).loc Cert.KernelSinIdeal.main_arg4)
          ∧ r.2.mem ((c.tc : Thread Cert.KernelSinIdeal.nD Cert.KernelSinIdeal.τ).loc Cert.KernelSinIdeal.main_arg5) = m ((c.tc : Thread Cert.KernelSinIdeal.nD Cert.KernelSinIdeal.τ).loc Cert.KernelSinIdeal.main_arg5))
      ∧ θ_run (Cert.ReferenceSinIdeal.defs (F := Ideal)) (onTc (τ := Cert.ReferenceSinIdeal.τ) (Cert.ReferenceSinIdeal.main (F := Ideal))) ⟨m', fun _ => 0, g'⟩ (fun r => ∀ c : Dev Cert.ReferenceSinIdeal.nD,
          r.2.mem ((c.tc : Thread Cert.ReferenceSinIdeal.nD Cert.ReferenceSinIdeal.τ).loc Cert.ReferenceSinIdeal.main_v99) = v0 c
          ∧ r.2.mem ((c.tc : Thread Cert.ReferenceSinIdeal.nD Cert.ReferenceSinIdeal.τ).loc Cert.ReferenceSinIdeal.main_arg0) = m' ((c.tc : Thread Cert.ReferenceSinIdeal.nD Cert.ReferenceSinIdeal.τ).loc Cert.ReferenceSinIdeal.main_arg0)
          ∧ r.2.mem ((c.tc : Thread Cert.ReferenceSinIdeal.nD Cert.ReferenceSinIdeal.τ).loc Cert.ReferenceSinIdeal.main_arg1) = m' ((c.tc : Thread Cert.ReferenceSinIdeal.nD Cert.ReferenceSinIdeal.τ).loc Cert.ReferenceSinIdeal.main_arg1)
          ∧ r.2.mem ((c.tc : Thread Cert.ReferenceSinIdeal.nD Cert.ReferenceSinIdeal.τ).loc Cert.ReferenceSinIdeal.main_arg2) = m' ((c.tc : Thread Cert.ReferenceSinIdeal.nD Cert.ReferenceSinIdeal.τ).loc Cert.ReferenceSinIdeal.main_arg2)
          ∧ r.2.mem ((c.tc : Thread Cert.ReferenceSinIdeal.nD Cert.ReferenceSinIdeal.τ).loc Cert.ReferenceSinIdeal.main_arg3) = m' ((c.tc : Thread Cert.ReferenceSinIdeal.nD Cert.ReferenceSinIdeal.τ).loc Cert.ReferenceSinIdeal.main_arg3)
          ∧ r.2.mem ((c.tc : Thread Cert.ReferenceSinIdeal.nD Cert.ReferenceSinIdeal.τ).loc Cert.ReferenceSinIdeal.main_arg4) = m' ((c.tc : Thread Cert.ReferenceSinIdeal.nD Cert.ReferenceSinIdeal.τ).loc Cert.ReferenceSinIdeal.main_arg4)
          ∧ r.2.mem ((c.tc : Thread Cert.ReferenceSinIdeal.nD Cert.ReferenceSinIdeal.τ).loc Cert.ReferenceSinIdeal.main_arg5) = m' ((c.tc : Thread Cert.ReferenceSinIdeal.nD Cert.ReferenceSinIdeal.τ).loc Cert.ReferenceSinIdeal.main_arg5))

def holds_QuarterSineIdeal_near_sin_pre_phases [hQuarterSineIdeal : Cert.QuarterSineIdeal.Facts] [hPre_phases : Cert.Pre_phases.Facts] [hPost_near_sin : Cert.Post_near_sin.Facts] : Prop :=
  ∀ (m : (ℓ : Loc Cert.QuarterSineIdeal.nD Cert.QuarterSineIdeal.τ Cert.QuarterSineIdeal.sig) → Buf (Elt Ideal) ℓ) (g : Dev Cert.QuarterSineIdeal.nD → PrngReg), Pre_QuarterSineIdeal_phases m →
    θ_run (Cert.QuarterSineIdeal.defs (F := Ideal)) (onTc (τ := Cert.QuarterSineIdeal.τ) (Cert.QuarterSineIdeal.main (F := Ideal))) ⟨m, fun _ => 0, g⟩ (fun r => ∀ c : Dev Cert.QuarterSineIdeal.nD,
      r.2.mem ((c.tc : Thread Cert.QuarterSineIdeal.nD Cert.QuarterSineIdeal.τ).loc Cert.QuarterSineIdeal.main_arg0) = m ((c.tc : Thread Cert.QuarterSineIdeal.nD Cert.QuarterSineIdeal.τ).loc Cert.QuarterSineIdeal.main_arg0)
      ∧ (Cert.Post_near_sin.fn (F := Ideal) (m ((c.tc : Thread Cert.QuarterSineIdeal.nD Cert.QuarterSineIdeal.τ).loc Cert.QuarterSineIdeal.main_arg0)) (r.2.mem ((c.tc : Thread Cert.QuarterSineIdeal.nD Cert.QuarterSineIdeal.τ).loc Cert.QuarterSineIdeal.main_v43))) = (fun _ => 1#1))

def Claim : Prop :=
  ∃ (hKernel : Cert.Kernel.Facts) (hKernelIdeal : Cert.KernelIdeal.Facts) (hReferenceIdeal : Cert.ReferenceIdeal.Facts) (hKernelSin : Cert.KernelSin.Facts) (hKernelSinIdeal : Cert.KernelSinIdeal.Facts) (hReferenceSinIdeal : Cert.ReferenceSinIdeal.Facts) (hQuarterSineIdeal : Cert.QuarterSineIdeal.Facts) (hPre_admitted : Cert.Pre_admitted.Facts) (hPre_phases : Cert.Pre_phases.Facts) (hPost_near_sin : Cert.Post_near_sin.Facts),
    quiescent_Kernel (hKernel := hKernel)
    ∧ quiescent_KernelIdeal (hKernelIdeal := hKernelIdeal)
    ∧ quiescent_KernelIdeal_pre_admitted (hKernelIdeal := hKernelIdeal) (hPre_admitted := hPre_admitted)
    ∧ quiescent_ReferenceIdeal (hReferenceIdeal := hReferenceIdeal)
    ∧ quiescent_ReferenceIdeal_pre_admitted (hReferenceIdeal := hReferenceIdeal) (hPre_admitted := hPre_admitted)
    ∧ quiescent_KernelSin (hKernelSin := hKernelSin)
    ∧ quiescent_KernelSinIdeal (hKernelSinIdeal := hKernelSinIdeal)
    ∧ quiescent_KernelSinIdeal_pre_admitted (hKernelSinIdeal := hKernelSinIdeal) (hPre_admitted := hPre_admitted)
    ∧ quiescent_ReferenceSinIdeal (hReferenceSinIdeal := hReferenceSinIdeal)
    ∧ quiescent_ReferenceSinIdeal_pre_admitted (hReferenceSinIdeal := hReferenceSinIdeal) (hPre_admitted := hPre_admitted)
    ∧ quiescent_QuarterSineIdeal (hQuarterSineIdeal := hQuarterSineIdeal)
    ∧ quiescent_QuarterSineIdeal_pre_phases (hQuarterSineIdeal := hQuarterSineIdeal) (hPre_phases := hPre_phases)
    ∧ preserves_Kernel_KernelIdeal
    ∧ algebraic_KernelIdeal_ReferenceIdeal_pre_admitted (hKernelIdeal := hKernelIdeal) (hReferenceIdeal := hReferenceIdeal) (hPre_admitted := hPre_admitted)
    ∧ preserves_KernelSin_KernelSinIdeal
    ∧ algebraic_KernelSinIdeal_ReferenceSinIdeal_pre_admitted (hKernelSinIdeal := hKernelSinIdeal) (hReferenceSinIdeal := hReferenceSinIdeal) (hPre_admitted := hPre_admitted)
    ∧ holds_QuarterSineIdeal_near_sin_pre_phases (hQuarterSineIdeal := hQuarterSineIdeal) (hPre_phases := hPre_phases) (hPost_near_sin := hPost_near_sin)
-- ==== Post_near_sin.lean ====
abbrev S_ : Shape := ⟨0, ![]⟩

class Facts : Prop where

variable [Facts]

def fn {F : FTy → Type} [FloatOps F] (main_arg0 : FVec F S_ .f32) (main_arg1 : FVec F S_ .f32) : IVec S_ 1 :=
  let main_v0 : FVec F S_ .f32 := Host.sin main_arg0
  let main_v1 : FVec F S_ .f32 := subf main_arg1 main_v0
  let main_v2 : FVec F S_ .f32 := Host.absf main_v1
  let main_cst : FVec F S_ .f32 := constant S_ .f32 0x3727C5AC#32
  let main_v3 : IVec S_ 1 := cmpf .olt main_v2 main_cst
  main_v3
-- ==== Pre_admitted.lean ====
abbrev S160000 : Shape := ⟨1, ![160000]⟩
abbrev S4x4x10x32 : Shape := ⟨4, ![4, 4, 10, 32]⟩
abbrev S4x4x32x32 : Shape := ⟨4, ![4, 4, 32, 32]⟩
abbrev S4x4x32x10 : Shape := ⟨4, ![4, 4, 32, 10]⟩
abbrev S_ : Shape := ⟨0, ![]⟩

class Facts : Prop where
  bcast_S_S160000 : S_.BroadcastsInDim S160000 (![] : Fin 0 → Fin S160000.rank)
  bcast_S_S4x4x10x32 : S_.BroadcastsInDim S4x4x10x32 (![] : Fin 0 → Fin S4x4x10x32.rank)
  bcast_S_S4x4x32x32 : S_.BroadcastsInDim S4x4x32x32 (![] : Fin 0 → Fin S4x4x32x32.rank)

variable [Facts]

def fn {F : FTy → Type} [FloatOps F] (main_arg0 : FVec F S160000 .f32) (main_arg1 : IVec S160000 32) (main_arg2 : FVec F S4x4x10x32 .f32) (main_arg3 : FVec F S4x4x32x32 .f32) (main_arg4 : FVec F S4x4x32x32 .f32) (main_arg5 : FVec F S4x4x32x10 .f32) : IVec S160000 1 × IVec S4x4x10x32 1 × IVec S4x4x32x32 1 × IVec S4x4x32x32 1 :=
  let main_cst : FVec F S_ .f32 := constant S_ .f32 0x360637BD#32
  let main_v0 : FVec F S160000 .f32 := broadcastInDim S160000 ![] bcast_S_S160000 main_cst
  let main_v1 : IVec S160000 1 := cmpf .oge main_arg0 main_v0
  let main_cst_0 : FVec F S_ .f32 := constant S_ .f32 0x41800000#32
  let main_v2 : FVec F S160000 .f32 := broadcastInDim S160000 ![] bcast_S_S160000 main_cst_0
  let main_v3 : IVec S160000 1 := cmpf .olt main_arg0 main_v2
  let main_v4 : IVec S160000 1 := andi main_v1 main_v3
  let main_v5 : FVec F S4x4x10x32 .f32 := Host.absf main_arg2
  let main_cst_1 : FVec F S_ .f32 := constant S_ .f32 0x7F800000#32
  let main_v6 : FVec F S4x4x10x32 .f32 := broadcastInDim S4x4x10x32 ![] bcast_S_S4x4x10x32 main_cst_1
  let main_v7 : IVec S4x4x10x32 1 := cmpf .olt main_v5 main_v6
  let main_v8 : FVec F S4x4x32x32 .f32 := Host.absf main_arg3
  let main_cst_2 : FVec F S_ .f32 := constant S_ .f32 0x7F800000#32
  let main_v9 : FVec F S4x4x32x32 .f32 := broadcastInDim S4x4x32x32 ![] bcast_S_S4x4x32x32 main_cst_2
  let main_v10 : IVec S4x4x32x32 1 := cmpf .olt main_v8 main_v9
  let main_v11 : FVec F S4x4x32x32 .f32 := Host.absf main_arg4
  let main_cst_3 : FVec F S_ .f32 := constant S_ .f32 0x7F800000#32
  let main_v12 : FVec F S4x4x32x32 .f32 := broadcastInDim S4x4x32x32 ![] bcast_S_S4x4x32x32 main_cst_3
  let main_v13 : IVec S4x4x32x32 1 := cmpf .olt main_v11 main_v12
  (main_v4, main_v7, main_v10, main_v13)
-- ==== Pre_phases.lean ====
abbrev S_ : Shape := ⟨0, ![]⟩

class Facts : Prop where

variable [Facts]

def fn {F : FTy → Type} [FloatOps F] (main_arg0 : FVec F S_ .f32) : IVec S_ 1 :=
  let main_cst : FVec F S_ .f32 := constant S_ .f32 0x00000000#32
  let main_v0 : IVec S_ 1 := cmpf .oge main_arg0 main_cst
  let main_cst_0 : FVec F S_ .f32 := constant S_ .f32 0x42F00000#32
  let main_v1 : IVec S_ 1 := cmpf .ole main_arg0 main_cst_0
  let main_v2 : IVec S_ 1 := andi main_v0 main_v1
  main_v2
-- ==== Kernel.lean ====
abbrev S160000 : Shape := ⟨1, ![160000]⟩
abbrev S4x4x10x32 : Shape := ⟨4, ![4, 4, 10, 32]⟩
abbrev S4x4x32x32 : Shape := ⟨4, ![4, 4, 32, 32]⟩
abbrev S4x4x32x10 : Shape := ⟨4, ![4, 4, 32, 10]⟩
abbrev S8x128 : Shape := ⟨2, ![8, 128]⟩
abbrev S_ : Shape := ⟨0, ![]⟩
abbrev S40x512 : Shape := ⟨2, ![40, 512]⟩
abbrev S4x128x128 : Shape := ⟨3, ![4, 128, 128]⟩
abbrev S1x1x10x32 : Shape := ⟨4, ![1, 1, 10, 32]⟩
abbrev S10x32 : Shape := ⟨2, ![10, 32]⟩
abbrev S1 : Shape := ⟨1, ![1]⟩
abbrev S2 : Shape := ⟨1, ![2]⟩
abbrev S4x1x32x32 : Shape := ⟨4, ![4, 1, 32, 32]⟩
abbrev S4x32x32 : Shape := ⟨3, ![4, 32, 32]⟩
abbrev S4x128x10 : Shape := ⟨3, ![4, 128, 10]⟩
abbrev S25x50x128 : Shape := ⟨3, ![25, 50, 128]⟩
abbrev S4x160000x10 : Shape := ⟨3, ![4, 160000, 10]⟩
abbrev S1x50x128 : Shape := ⟨3, ![1, 50, 128]⟩
abbrev S4x6400x10 : Shape := ⟨3, ![4, 6400, 10]⟩
abbrev S50x128 : Shape := ⟨2, ![50, 128]⟩
abbrev S12x128 : Shape := ⟨2, ![12, 128]⟩
abbrev S128x12 : Shape := ⟨2, ![128, 12]⟩
abbrev S128x1 : Shape := ⟨2, ![128, 1]⟩
abbrev S1536x1 : Shape := ⟨2, ![1536, 1]⟩
abbrev S1x40 : Shape := ⟨2, ![1, 40]⟩
abbrev S1x128 : Shape := ⟨2, ![1, 128]⟩
abbrev S1536x40 : Shape := ⟨2, ![1536, 40]⟩
abbrev S1536x128 : Shape := ⟨2, ![1536, 128]⟩
abbrev S1536x512 : Shape := ⟨2, ![1536, 512]⟩
abbrev S1x128x128 : Shape := ⟨3, ![1, 128, 128]⟩
abbrev S128x128 : Shape := ⟨2, ![128, 128]⟩
abbrev S1x128x10 : Shape := ⟨3, ![1, 128, 10]⟩
abbrev S128x10 : Shape := ⟨2, ![128, 10]⟩
abbrev S1536x10 : Shape := ⟨2, ![1536, 10]⟩
abbrev S1x1536x10 : Shape := ⟨3, ![1, 1536, 10]⟩
abbrev S13x128 : Shape := ⟨2, ![13, 128]⟩
abbrev S128x13 : Shape := ⟨2, ![128, 13]⟩
abbrev S1664x1 : Shape := ⟨2, ![1664, 1]⟩
abbrev S1664x40 : Shape := ⟨2, ![1664, 40]⟩
abbrev S1664x128 : Shape := ⟨2, ![1664, 128]⟩
abbrev S1664x512 : Shape := ⟨2, ![1664, 512]⟩
abbrev S1664x10 : Shape := ⟨2, ![1664, 10]⟩
abbrev S1x1664x10 : Shape := ⟨3, ![1, 1664, 10]⟩

abbrev nBuf : Space → Nat
  | .hbm => 285
  | .vmem => 9
  | .smem => 0
  | _ => 0

abbrev hbmTy0_0 (i : Nat) : BufTy := match i % 128 with
  | 0 => ⟨S160000, .f32⟩
  | 1 => ⟨S160000, .i32⟩
  | 2 => ⟨S4x4x10x32, .f32⟩
  | 3 => ⟨S4x4x32x32, .f32⟩
  | 4 => ⟨S4x4x32x32, .f32⟩
  | 5 => ⟨S4x4x32x10, .f32⟩
  | 6 => ⟨S8x128, .f32⟩
  | 7 => ⟨S_, .f32⟩
  | 8 => ⟨S40x512, .f32⟩
  | 9 => ⟨S_, .f32⟩
  | 10 => ⟨S4x128x128, .f32⟩
  | 11 => ⟨S_, .f32⟩
  | 12 => ⟨S4x128x128, .f32⟩
  | 13 => ⟨S1x1x10x32, .f32⟩
  | 14 => ⟨S10x32, .f32⟩
  | 15 => ⟨S_, .f32⟩
  | 16 => ⟨S10x32, .f32⟩
  | 17 => ⟨S10x32, .f32⟩
  | 18 => ⟨S_, .i32⟩
  | 19 => ⟨S1, .i32⟩
  | 20 => ⟨S_, .i32⟩
  | 21 => ⟨S1, .i32⟩
  | 22 => ⟨S2, .i32⟩
  | 23 => ⟨S40x512, .f32⟩
  | 24 => ⟨S1x1x10x32, .f32⟩
  | 25 => ⟨S10x32, .f32⟩
  | 26 => ⟨S_, .f32⟩
  | 27 => ⟨S10x32, .f32⟩
  | 28 => ⟨S10x32, .f32⟩
  | 29 => ⟨S_, .i32⟩
  | 30 => ⟨S1, .i32⟩
  | 31 => ⟨S_, .i32⟩
  | 32 => ⟨S1, .i32⟩
  | 33 => ⟨S2, .i32⟩
  | 34 => ⟨S40x512, .f32⟩
  | 35 => ⟨S1x1x10x32, .f32⟩
  | 36 => ⟨S10x32, .f32⟩
  | 37 => ⟨S_, .f32⟩
  | 38 => ⟨S10x32, .f32⟩
  | 39 => ⟨S10x32, .f32⟩
  | 40 => ⟨S_, .i32⟩
  | 41 => ⟨S1, .i32⟩
  | 42 => ⟨S_, .i32⟩
  | 43 => ⟨S1, .i32⟩
  | 44 => ⟨S2, .i32⟩
  | 45 => ⟨S40x512, .f32⟩
  | 46 => ⟨S1x1x10x32, .f32⟩
  | 47 => ⟨S10x32, .f32⟩
  | 48 => ⟨S_, .f32⟩
  | 49 => ⟨S10x32, .f32⟩
  | 50 => ⟨S10x32, .f32⟩
  | 51 => ⟨S_, .i32⟩
  | 52 => ⟨S1, .i32⟩
  | 53 => ⟨S_, .i32⟩
  | 54 => ⟨S1, .i32⟩
  | 55 => ⟨S2, .i32⟩
  | 56 => ⟨S40x512, .f32⟩
  | 57 => ⟨S1x1x10x32, .f32⟩
  | 58 => ⟨S10x32, .f32⟩
  | 59 => ⟨S_, .f32⟩
  | 60 => ⟨S10x32, .f32⟩
  | 61 => ⟨S10x32, .f32⟩
  | 62 => ⟨S_, .i32⟩
  | 63 => ⟨S1, .i32⟩
  | 64 => ⟨S_, .i32⟩
  | 65 => ⟨S1, .i32⟩
  | 66 => ⟨S2, .i32⟩
  | 67 => ⟨S40x512, .f32⟩
  | 68 => ⟨S1x1x10x32, .f32⟩
  | 69 => ⟨S10x32, .f32⟩
  | 70 => ⟨S_, .f32⟩
  | 71 => ⟨S10x32, .f32⟩
  | 72 => ⟨S10x32, .f32⟩
  | 73 => ⟨S_, .i32⟩
  | 74 => ⟨S1, .i32⟩
  | 75 => ⟨S_, .i32⟩
  | 76 => ⟨S1, .i32⟩
  | 77 => ⟨S2, .i32⟩
  | 78 => ⟨S40x512, .f32⟩
  | 79 => ⟨S1x1x10x32, .f32⟩
  | 80 => ⟨S10x32, .f32⟩
  | 81 => ⟨S_, .f32⟩
  | 82 => ⟨S10x32, .f32⟩
  | 83 => ⟨S10x32, .f32⟩
  | 84 => ⟨S_, .i32⟩
  | 85 => ⟨S1, .i32⟩
  | 86 => ⟨S_, .i32⟩
  | 87 => ⟨S1, .i32⟩
  | 88 => ⟨S2, .i32⟩
  | 89 => ⟨S40x512, .f32⟩
  | 90 => ⟨S1x1x10x32, .f32⟩
  | 91 => ⟨S10x32, .f32⟩
  | 92 => ⟨S_, .f32⟩
  | 93 => ⟨S10x32, .f32⟩
  | 94 => ⟨S10x32, .f32⟩
  | 95 => ⟨S_, .i32⟩
  | 96 => ⟨S1, .i32⟩
  | 97 => ⟨S_, .i32⟩
  | 98 => ⟨S1, .i32⟩
  | 99 => ⟨S2, .i32⟩
  | 100 => ⟨S40x512, .f32⟩
  | 101 => ⟨S1x1x10x32, .f32⟩
  | 102 => ⟨S10x32, .f32⟩
  | 103 => ⟨S_, .f32⟩
  | 104 => ⟨S10x32, .f32⟩
  | 105 => ⟨S10x32, .f32⟩
  | 106 => ⟨S_, .i32⟩
  | 107 => ⟨S1, .i32⟩
  | 108 => ⟨S_, .i32⟩
  | 109 => ⟨S1, .i32⟩
  | 110 => ⟨S2, .i32⟩
  | 111 => ⟨S40x512, .f32⟩
  | 112 => ⟨S1x1x10x32, .f32⟩
  | 113 => ⟨S10x32, .f32⟩
  | 114 => ⟨S_, .f32⟩
  | 115 => ⟨S10x32, .f32⟩
  | 116 => ⟨S10x32, .f32⟩
  | 117 => ⟨S_, .i32⟩
  | 118 => ⟨S1, .i32⟩
  | 119 => ⟨S_, .i32⟩
  | 120 => ⟨S1, .i32⟩
  | 121 => ⟨S2, .i32⟩
  | 122 => ⟨S40x512, .f32⟩
  | 123 => ⟨S1x1x10x32, .f32⟩
  | 124 => ⟨S10x32, .f32⟩
  | 125 => ⟨S_, .f32⟩
  | 126 => ⟨S10x32, .f32⟩
  | 127 => ⟨S10x32, .f32⟩
  | _ => ⟨S160000, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S40x512, .f32⟩
  | 6 => ⟨S1x1x10x32, .f32⟩
  | 7 => ⟨S10x32, .f32⟩
  | 8 => ⟨S_, .f32⟩
  | 9 => ⟨S10x32, .f32⟩
  | 10 => ⟨S10x32, .f32⟩
  | 11 => ⟨S_, .i32⟩
  | 12 => ⟨S1, .i32⟩
  | 13 => ⟨S_, .i32⟩
  | 14 => ⟨S1, .i32⟩
  | 15 => ⟨S2, .i32⟩
  | 16 => ⟨S40x512, .f32⟩
  | 17 => ⟨S1x1x10x32, .f32⟩
  | 18 => ⟨S10x32, .f32⟩
  | 19 => ⟨S_, .f32⟩
  | 20 => ⟨S10x32, .f32⟩
  | 21 => ⟨S10x32, .f32⟩
  | 22 => ⟨S_, .i32⟩
  | 23 => ⟨S1, .i32⟩
  | 24 => ⟨S_, .i32⟩
  | 25 => ⟨S1, .i32⟩
  | 26 => ⟨S2, .i32⟩
  | 27 => ⟨S40x512, .f32⟩
  | 28 => ⟨S1x1x10x32, .f32⟩
  | 29 => ⟨S10x32, .f32⟩
  | 30 => ⟨S_, .f32⟩
  | 31 => ⟨S10x32, .f32⟩
  | 32 => ⟨S10x32, .f32⟩
  | 33 => ⟨S_, .i32⟩
  | 34 => ⟨S1, .i32⟩
  | 35 => ⟨S_, .i32⟩
  | 36 => ⟨S1, .i32⟩
  | 37 => ⟨S2, .i32⟩
  | 38 => ⟨S40x512, .f32⟩
  | 39 => ⟨S1x1x10x32, .f32⟩
  | 40 => ⟨S10x32, .f32⟩
  | 41 => ⟨S_, .f32⟩
  | 42 => ⟨S10x32, .f32⟩
  | 43 => ⟨S10x32, .f32⟩
  | 44 => ⟨S_, .i32⟩
  | 45 => ⟨S1, .i32⟩
  | 46 => ⟨S_, .i32⟩
  | 47 => ⟨S1, .i32⟩
  | 48 => ⟨S2, .i32⟩
  | 49 => ⟨S40x512, .f32⟩
  | 50 => ⟨S1x1x10x32, .f32⟩
  | 51 => ⟨S10x32, .f32⟩
  | 52 => ⟨S_, .f32⟩
  | 53 => ⟨S10x32, .f32⟩
  | 54 => ⟨S10x32, .f32⟩
  | 55 => ⟨S_, .i32⟩
  | 56 => ⟨S1, .i32⟩
  | 57 => ⟨S_, .i32⟩
  | 58 => ⟨S1, .i32⟩
  | 59 => ⟨S2, .i32⟩
  | 60 => ⟨S40x512, .f32⟩
  | 61 => ⟨S4x1x32x32, .f32⟩
  | 62 => ⟨S4x32x32, .f32⟩
  | 63 => ⟨S_, .f32⟩
  | 64 => ⟨S4x32x32, .f32⟩
  | 65 => ⟨S4x32x32, .f32⟩
  | 66 => ⟨S_, .i32⟩
  | 67 => ⟨S1, .i32⟩
  | 68 => ⟨S_, .i32⟩
  | 69 => ⟨S1, .i32⟩
  | 70 => ⟨S2, .i32⟩
  | 71 => ⟨S4x128x128, .f32⟩
  | 72 => ⟨S4x1x32x32, .f32⟩
  | 73 => ⟨S4x32x32, .f32⟩
  | 74 => ⟨S_, .f32⟩
  | 75 => ⟨S4x32x32, .f32⟩
  | 76 => ⟨S4x32x32, .f32⟩
  | 77 => ⟨S_, .i32⟩
  | 78 => ⟨S1, .i32⟩
  | 79 => ⟨S_, .i32⟩
  | 80 => ⟨S1, .i32⟩
  | 81 => ⟨S2, .i32⟩
  | 82 => ⟨S4x128x128, .f32⟩
  | 83 => ⟨S4x1x32x32, .f32⟩
  | 84 => ⟨S4x32x32, .f32⟩
  | 85 => ⟨S_, .f32⟩
  | 86 => ⟨S4x32x32, .f32⟩
  | 87 => ⟨S4x32x32, .f32⟩
  | 88 => ⟨S_, .i32⟩
  | 89 => ⟨S1, .i32⟩
  | 90 => ⟨S_, .i32⟩
  | 91 => ⟨S1, .i32⟩
  | 92 => ⟨S2, .i32⟩
  | 93 => ⟨S4x128x128, .f32⟩
  | 94 => ⟨S4x1x32x32, .f32⟩
  | 95 => ⟨S4x32x32, .f32⟩
  | 96 => ⟨S_, .f32⟩
  | 97 => ⟨S4x32x32, .f32⟩
  | 98 => ⟨S4x32x32, .f32⟩
  | 99 => ⟨S_, .i32⟩
  | 100 => ⟨S1, .i32⟩
  | 101 => ⟨S_, .i32⟩
  | 102 => ⟨S1, .i32⟩
  | 103 => ⟨S2, .i32⟩
  | 104 => ⟨S4x128x128, .f32⟩
  | 105 => ⟨S4x1x32x32, .f32⟩
  | 106 => ⟨S4x32x32, .f32⟩
  | 107 => ⟨S_, .f32⟩
  | 108 => ⟨S4x32x32, .f32⟩
  | 109 => ⟨S4x32x32, .f32⟩
  | 110 => ⟨S_, .i32⟩
  | 111 => ⟨S1, .i32⟩
  | 112 => ⟨S_, .i32⟩
  | 113 => ⟨S1, .i32⟩
  | 114 => ⟨S2, .i32⟩
  | 115 => ⟨S4x128x128, .f32⟩
  | 116 => ⟨S4x1x32x32, .f32⟩
  | 117 => ⟨S4x32x32, .f32⟩
  | 118 => ⟨S_, .f32⟩
  | 119 => ⟨S4x32x32, .f32⟩
  | 120 => ⟨S4x32x32, .f32⟩
  | 121 => ⟨S_, .i32⟩
  | 122 => ⟨S1, .i32⟩
  | 123 => ⟨S_, .i32⟩
  | 124 => ⟨S1, .i32⟩
  | 125 => ⟨S2, .i32⟩
  | 126 => ⟨S4x128x128, .f32⟩
  | 127 => ⟨S4x1x32x32, .f32⟩
  | _ => ⟨S160000, .f32⟩

abbrev hbmTy0_2 (i : Nat) : BufTy := match i % 128 with
  | 0 => ⟨S4x32x32, .f32⟩
  | 1 => ⟨S_, .f32⟩
  | 2 => ⟨S4x32x32, .f32⟩
  | 3 => ⟨S4x32x32, .f32⟩
  | 4 => ⟨S_, .i32⟩
  | 5 => ⟨S1, .i32⟩
  | 6 => ⟨S_, .i32⟩
  | 7 => ⟨S1, .i32⟩
  | 8 => ⟨S2, .i32⟩
  | 9 => ⟨S4x128x128, .f32⟩
  | 10 => ⟨S4x1x32x32, .f32⟩
  | 11 => ⟨S4x32x32, .f32⟩
  | 12 => ⟨S_, .f32⟩
  | 13 => ⟨S4x32x32, .f32⟩
  | 14 => ⟨S4x32x32, .f32⟩
  | 15 => ⟨S_, .i32⟩
  | 16 => ⟨S1, .i32⟩
  | 17 => ⟨S_, .i32⟩
  | 18 => ⟨S1, .i32⟩
  | 19 => ⟨S2, .i32⟩
  | 20 => ⟨S4x128x128, .f32⟩
  | 21 => ⟨S4x128x10, .f32⟩
  | 22 => ⟨S160000, .f32⟩
  | 23 => ⟨S_, .f32⟩
  | 24 => ⟨S160000, .f32⟩
  | 25 => ⟨S160000, .f32⟩
  | 26 => ⟨S160000, .f32⟩
  | 27 => ⟨S25x50x128, .f32⟩
  | 28 => ⟨S4x160000x10, .f32⟩
  | _ => ⟨S160000, .f32⟩

abbrev hbmTy (i : Nat) : BufTy := match i / 128 with
  | 0 => hbmTy0_0 i
  | 1 => hbmTy0_1 i
  | 2 => hbmTy0_2 i
  | _ => ⟨S160000, .f32⟩

abbrev bufTy : (tb : Table) → Fin (tcTables nBuf tb) → BufTy
  | .hbm, ⟨i, _⟩ => hbmTy i
  | .local _ .vmem, ⟨0, _⟩ => ⟨S1x50x128, .f32⟩
  | .local _ .vmem, ⟨1, _⟩ => ⟨S1x50x128, .f32⟩
  | .local _ .vmem, ⟨2, _⟩ => ⟨S8x128, .f32⟩
  | .local _ .vmem, ⟨3, _⟩ => ⟨S40x512, .f32⟩
  | .local _ .vmem, ⟨4, _⟩ => ⟨S4x128x128, .f32⟩
  | .local _ .vmem, ⟨5, _⟩ => ⟨S4x128x128, .f32⟩
  | .local _ .vmem, ⟨6, _⟩ => ⟨S4x128x10, .f32⟩
  | .local _ .vmem, ⟨7, _⟩ => ⟨S4x6400x10, .f32⟩
  | .local _ .vmem, ⟨8, _⟩ => ⟨S4x6400x10, .f32⟩
  | _, _ => ⟨S160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_cst_0 : Ref sig .tc := ⟨.hbm, 7, rfl⟩
abbrev main_call0_v0 : Ref sig .tc := ⟨.hbm, 8, rfl⟩
abbrev main_call0_cst_1 : Ref sig .tc := ⟨.hbm, 9, rfl⟩
abbrev main_call0_v1 : Ref sig .tc := ⟨.hbm, 10, rfl⟩
abbrev main_call0_cst_2 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst_3 : Ref sig .tc := ⟨.hbm, 15, rfl⟩
abbrev main_call0_v5 : Ref sig .tc := ⟨.hbm, 16, rfl⟩
abbrev main_call0_v6 : Ref sig .tc := ⟨.hbm, 17, rfl⟩
abbrev main_call0_c : Ref sig .tc := ⟨.hbm, 18, rfl⟩
abbrev main_call0_v7 : Ref sig .tc := ⟨.hbm, 19, rfl⟩
abbrev main_call0_c_4 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_5 : Ref sig .tc := ⟨.hbm, 26, rfl⟩
abbrev main_call0_v13 : Ref sig .tc := ⟨.hbm, 27, rfl⟩
abbrev main_call0_v14 : Ref sig .tc := ⟨.hbm, 28, rfl⟩
abbrev main_call0_c_6 : Ref sig .tc := ⟨.hbm, 29, rfl⟩
abbrev main_call0_v15 : Ref sig .tc := ⟨.hbm, 30, rfl⟩
abbrev main_call0_c_7 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_cst_8 : Ref sig .tc := ⟨.hbm, 37, rfl⟩
abbrev main_call0_v21 : Ref sig .tc := ⟨.hbm, 38, rfl⟩
abbrev main_call0_v22 : Ref sig .tc := ⟨.hbm, 39, rfl⟩
abbrev main_call0_c_9 : Ref sig .tc := ⟨.hbm, 40, rfl⟩
abbrev main_call0_v23 : Ref sig .tc := ⟨.hbm, 41, rfl⟩
abbrev main_call0_c_10 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_cst_11 : Ref sig .tc := ⟨.hbm, 48, rfl⟩
abbrev main_call0_v29 : Ref sig .tc := ⟨.hbm, 49, rfl⟩
abbrev main_call0_v30 : Ref sig .tc := ⟨.hbm, 50, rfl⟩
abbrev main_call0_c_12 : Ref sig .tc := ⟨.hbm, 51, rfl⟩
abbrev main_call0_v31 : Ref sig .tc := ⟨.hbm, 52, rfl⟩
abbrev main_call0_c_13 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_cst_14 : Ref sig .tc := ⟨.hbm, 59, rfl⟩
abbrev main_call0_v37 : Ref sig .tc := ⟨.hbm, 60, rfl⟩
abbrev main_call0_v38 : Ref sig .tc := ⟨.hbm, 61, rfl⟩
abbrev main_call0_c_15 : Ref sig .tc := ⟨.hbm, 62, rfl⟩
abbrev main_call0_v39 : Ref sig .tc := ⟨.hbm, 63, rfl⟩
abbrev main_call0_c_16 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_cst_17 : Ref sig .tc := ⟨.hbm, 70, rfl⟩
abbrev main_call0_v45 : Ref sig .tc := ⟨.hbm, 71, rfl⟩
abbrev main_call0_v46 : Ref sig .tc := ⟨.hbm, 72, rfl⟩
abbrev main_call0_c_18 : Ref sig .tc := ⟨.hbm, 73, rfl⟩
abbrev main_call0_v47 : Ref sig .tc := ⟨.hbm, 74, rfl⟩
abbrev main_call0_c_19 : Ref sig .tc := ⟨.hbm, 75, rfl⟩
abbrev main_call0_v48 : Ref sig .tc := ⟨.hbm, 76, rfl⟩
abbrev main_call0_v49 : Ref sig .tc := ⟨.hbm, 77, rfl⟩
abbrev main_call0_v50 : Ref sig .tc := ⟨.hbm, 78, rfl⟩
abbrev main_call0_v51 : Ref sig .tc := ⟨.hbm, 79, rfl⟩
abbrev main_call0_v52 : Ref sig .tc := ⟨.hbm, 80, rfl⟩
abbrev main_call0_cst_20 : Ref sig .tc := ⟨.hbm, 81, rfl⟩
abbrev main_call0_v53 : Ref sig .tc := ⟨.hbm, 82, rfl⟩
abbrev main_call0_v54 : Ref sig .tc := ⟨.hbm, 83, rfl⟩
abbrev main_call0_c_21 : Ref sig .tc := ⟨.hbm, 84, rfl⟩
abbrev main_call0_v55 : Ref sig .tc := ⟨.hbm, 85, rfl⟩
abbrev main_call0_c_22 : Ref sig .tc := ⟨.hbm, 86, rfl⟩
abbrev main_call0_v56 : Ref sig .tc := ⟨.hbm, 87, rfl⟩
abbrev main_call0_v57 : Ref sig .tc := ⟨.hbm, 88, rfl⟩
abbrev main_call0_v58 : Ref sig .tc := ⟨.hbm, 89, rfl⟩
abbrev main_call0_v59 : Ref sig .tc := ⟨.hbm, 90, rfl⟩
abbrev main_call0_v60 : Ref sig .tc := ⟨.hbm, 91, rfl⟩
abbrev main_call0_cst_23 : Ref sig .tc := ⟨.hbm, 92, rfl⟩
abbrev main_call0_v61 : Ref sig .tc := ⟨.hbm, 93, rfl⟩
abbrev main_call0_v62 : Ref sig .tc := ⟨.hbm, 94, rfl⟩
abbrev main_call0_c_24 : Ref sig .tc := ⟨.hbm, 95, rfl⟩
abbrev main_call0_v63 : Ref sig .tc := ⟨.hbm, 96, rfl⟩
abbrev main_call0_c_25 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_v67 : Ref sig .tc := ⟨.hbm, 101, rfl⟩
abbrev main_call0_v68 : Ref sig .tc := ⟨.hbm, 102, rfl⟩
abbrev main_call0_cst_26 : Ref sig .tc := ⟨.hbm, 103, rfl⟩
abbrev main_call0_v69 : Ref sig .tc := ⟨.hbm, 104, rfl⟩
abbrev main_call0_v70 : Ref sig .tc := ⟨.hbm, 105, rfl⟩
abbrev main_call0_c_27 : Ref sig .tc := ⟨.hbm, 106, rfl⟩
abbrev main_call0_v71 : Ref sig .tc := ⟨.hbm, 107, rfl⟩
abbrev main_call0_c_28 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_v75 : Ref sig .tc := ⟨.hbm, 112, rfl⟩
abbrev main_call0_v76 : Ref sig .tc := ⟨.hbm, 113, rfl⟩
abbrev main_call0_cst_29 : Ref sig .tc := ⟨.hbm, 114, rfl⟩
abbrev main_call0_v77 : Ref sig .tc := ⟨.hbm, 115, rfl⟩
abbrev main_call0_v78 : Ref sig .tc := ⟨.hbm, 116, rfl⟩
abbrev main_call0_c_30 : Ref sig .tc := ⟨.hbm, 117, rfl⟩
abbrev main_call0_v79 : Ref sig .tc := ⟨.hbm, 118, rfl⟩
abbrev main_call0_c_31 : Ref sig .tc := ⟨.hbm, 119, rfl⟩
abbrev main_call0_v80 : Ref sig .tc := ⟨.hbm, 120, rfl⟩
abbrev main_call0_v81 : Ref sig .tc := ⟨.hbm, 121, rfl⟩
abbrev main_call0_v82 : Ref sig .tc := ⟨.hbm, 122, rfl⟩
abbrev main_call0_v83 : Ref sig .tc := ⟨.hbm, 123, rfl⟩
abbrev main_call0_v84 : Ref sig .tc := ⟨.hbm, 124, rfl⟩
abbrev main_call0_cst_32 : Ref sig .tc := ⟨.hbm, 125, rfl⟩
abbrev main_call0_v85 : Ref sig .tc := ⟨.hbm, 126, rfl⟩
abbrev main_call0_v86 : Ref sig .tc := ⟨.hbm, 127, rfl⟩
abbrev main_call0_c_33 : Ref sig .tc := ⟨.hbm, 128, rfl⟩
abbrev main_call0_v87 : Ref sig .tc := ⟨.hbm, 129, rfl⟩
abbrev main_call0_c_34 : Ref sig .tc := ⟨.hbm, 130, rfl⟩
abbrev main_call0_v88 : Ref sig .tc := ⟨.hbm, 131, rfl⟩
abbrev main_call0_v89 : Ref sig .tc := ⟨.hbm, 132, rfl⟩
abbrev main_call0_v90 : Ref sig .tc := ⟨.hbm, 133, rfl⟩
abbrev main_call0_v91 : Ref sig .tc := ⟨.hbm, 134, rfl⟩
abbrev main_call0_v92 : Ref sig .tc := ⟨.hbm, 135, rfl⟩
abbrev main_call0_cst_35 : Ref sig .tc := ⟨.hbm, 136, rfl⟩
abbrev main_call0_v93 : Ref sig .tc := ⟨.hbm, 137, rfl⟩
abbrev main_call0_v94 : Ref sig .tc := ⟨.hbm, 138, rfl⟩
abbrev main_call0_c_36 : Ref sig .tc := ⟨.hbm, 139, rfl⟩
abbrev main_call0_v95 : Ref sig .tc := ⟨.hbm, 140, rfl⟩
abbrev main_call0_c_37 : Ref sig .tc := ⟨.hbm, 141, rfl⟩
abbrev main_call0_v96 : Ref sig .tc := ⟨.hbm, 142, rfl⟩
abbrev main_call0_v97 : Ref sig .tc := ⟨.hbm, 143, rfl⟩
abbrev main_call0_v98 : Ref sig .tc := ⟨.hbm, 144, rfl⟩
abbrev main_call0_v99 : Ref sig .tc := ⟨.hbm, 145, rfl⟩
abbrev main_call0_v100 : Ref sig .tc := ⟨.hbm, 146, rfl⟩
abbrev main_call0_cst_38 : Ref sig .tc := ⟨.hbm, 147, rfl⟩
abbrev main_call0_v101 : Ref sig .tc := ⟨.hbm, 148, rfl⟩
abbrev main_call0_v102 : Ref sig .tc := ⟨.hbm, 149, rfl⟩
abbrev main_call0_c_39 : Ref sig .tc := ⟨.hbm, 150, rfl⟩
abbrev main_call0_v103 : Ref sig .tc := ⟨.hbm, 151, rfl⟩
abbrev main_call0_c_40 : Ref sig .tc := ⟨.hbm, 152, rfl⟩
abbrev main_call0_v104 : Ref sig .tc := ⟨.hbm, 153, rfl⟩
abbrev main_call0_v105 : Ref sig .tc := ⟨.hbm, 154, rfl⟩
abbrev main_call0_v106 : Ref sig .tc := ⟨.hbm, 155, rfl⟩
abbrev main_call0_v107 : Ref sig .tc := ⟨.hbm, 156, rfl⟩
abbrev main_call0_v108 : Ref sig .tc := ⟨.hbm, 157, rfl⟩
abbrev main_call0_cst_41 : Ref sig .tc := ⟨.hbm, 158, rfl⟩
abbrev main_call0_v109 : Ref sig .tc := ⟨.hbm, 159, rfl⟩
abbrev main_call0_v110 : Ref sig .tc := ⟨.hbm, 160, rfl⟩
abbrev main_call0_c_42 : Ref sig .tc := ⟨.hbm, 161, rfl⟩
abbrev main_call0_v111 : Ref sig .tc := ⟨.hbm, 162, rfl⟩
abbrev main_call0_c_43 : Ref sig .tc := ⟨.hbm, 163, rfl⟩
abbrev main_call0_v112 : Ref sig .tc := ⟨.hbm, 164, rfl⟩
abbrev main_call0_v113 : Ref sig .tc := ⟨.hbm, 165, rfl⟩
abbrev main_call0_v114 : Ref sig .tc := ⟨.hbm, 166, rfl⟩
abbrev main_call0_v115 : Ref sig .tc := ⟨.hbm, 167, rfl⟩
abbrev main_call0_v116 : Ref sig .tc := ⟨.hbm, 168, rfl⟩
abbrev main_call0_cst_44 : Ref sig .tc := ⟨.hbm, 169, rfl⟩
abbrev main_call0_v117 : Ref sig .tc := ⟨.hbm, 170, rfl⟩
abbrev main_call0_v118 : Ref sig .tc := ⟨.hbm, 171, rfl⟩
abbrev main_call0_c_45 : Ref sig .tc := ⟨.hbm, 172, rfl⟩
abbrev main_call0_v119 : Ref sig .tc := ⟨.hbm, 173, rfl⟩
abbrev main_call0_c_46 : Ref sig .tc := ⟨.hbm, 174, rfl⟩
abbrev main_call0_v120 : Ref sig .tc := ⟨.hbm, 175, rfl⟩
abbrev main_call0_v121 : Ref sig .tc := ⟨.hbm, 176, rfl⟩
abbrev main_call0_v122 : Ref sig .tc := ⟨.hbm, 177, rfl⟩
abbrev main_call0_v123 : Ref sig .tc := ⟨.hbm, 178, rfl⟩
abbrev main_call0_v124 : Ref sig .tc := ⟨.hbm, 179, rfl⟩
abbrev main_call0_cst_47 : Ref sig .tc := ⟨.hbm, 180, rfl⟩
abbrev main_call0_v125 : Ref sig .tc := ⟨.hbm, 181, rfl⟩
abbrev main_call0_v126 : Ref sig .tc := ⟨.hbm, 182, rfl⟩
abbrev main_call0_c_48 : Ref sig .tc := ⟨.hbm, 183, rfl⟩
abbrev main_call0_v127 : Ref sig .tc := ⟨.hbm, 184, rfl⟩
abbrev main_call0_c_49 : Ref sig .tc := ⟨.hbm, 185, rfl⟩
abbrev main_call0_v128 : Ref sig .tc := ⟨.hbm, 186, rfl⟩
abbrev main_call0_v129 : Ref sig .tc := ⟨.hbm, 187, rfl⟩
abbrev main_call0_v130 : Ref sig .tc := ⟨.hbm, 188, rfl⟩
abbrev main_call0_v131 : Ref sig .tc := ⟨.hbm, 189, rfl⟩
abbrev main_call0_v132 : Ref sig .tc := ⟨.hbm, 190, rfl⟩
abbrev main_call0_cst_50 : Ref sig .tc := ⟨.hbm, 191, rfl⟩
abbrev main_call0_v133 : Ref sig .tc := ⟨.hbm, 192, rfl⟩
abbrev main_call0_v134 : Ref sig .tc := ⟨.hbm, 193, rfl⟩
abbrev main_call0_c_51 : Ref sig .tc := ⟨.hbm, 194, rfl⟩
abbrev main_call0_v135 : Ref sig .tc := ⟨.hbm, 195, rfl⟩
abbrev main_call0_c_52 : Ref sig .tc := ⟨.hbm, 196, rfl⟩
abbrev main_call0_v136 : Ref sig .tc := ⟨.hbm, 197, rfl⟩
abbrev main_call0_v137 : Ref sig .tc := ⟨.hbm, 198, rfl⟩
abbrev main_call0_v138 : Ref sig .tc := ⟨.hbm, 199, rfl⟩
abbrev main_call0_v139 : Ref sig .tc := ⟨.hbm, 200, rfl⟩
abbrev main_call0_v140 : Ref sig .tc := ⟨.hbm, 201, rfl⟩
abbrev main_call0_cst_53 : Ref sig .tc := ⟨.hbm, 202, rfl⟩
abbrev main_call0_v141 : Ref sig .tc := ⟨.hbm, 203, rfl⟩
abbrev main_call0_v142 : Ref sig .tc := ⟨.hbm, 204, rfl⟩
abbrev main_call0_c_54 : Ref sig .tc := ⟨.hbm, 205, rfl⟩
abbrev main_call0_v143 : Ref sig .tc := ⟨.hbm, 206, rfl⟩
abbrev main_call0_c_55 : Ref sig .tc := ⟨.hbm, 207, rfl⟩
abbrev main_call0_v144 : Ref sig .tc := ⟨.hbm, 208, rfl⟩
abbrev main_call0_v145 : Ref sig .tc := ⟨.hbm, 209, rfl⟩
abbrev main_call0_v146 : Ref sig .tc := ⟨.hbm, 210, rfl⟩
abbrev main_call0_v147 : Ref sig .tc := ⟨.hbm, 211, rfl⟩
abbrev main_call0_v148 : Ref sig .tc := ⟨.hbm, 212, rfl⟩
abbrev main_call0_cst_56 : Ref sig .tc := ⟨.hbm, 213, rfl⟩
abbrev main_call0_v149 : Ref sig .tc := ⟨.hbm, 214, rfl⟩
abbrev main_call0_v150 : Ref sig .tc := ⟨.hbm, 215, rfl⟩
abbrev main_call0_c_57 : Ref sig .tc := ⟨.hbm, 216, rfl⟩
abbrev main_call0_v151 : Ref sig .tc := ⟨.hbm, 217, rfl⟩
abbrev main_call0_c_58 : Ref sig .tc := ⟨.hbm, 218, rfl⟩
abbrev main_call0_v152 : Ref sig .tc := ⟨.hbm, 219, rfl⟩
abbrev main_call0_v153 : Ref sig .tc := ⟨.hbm, 220, rfl⟩
abbrev main_call0_v154 : Ref sig .tc := ⟨.hbm, 221, rfl⟩
abbrev main_call0_v155 : Ref sig .tc := ⟨.hbm, 222, rfl⟩
abbrev main_call0_v156 : Ref sig .tc := ⟨.hbm, 223, rfl⟩
abbrev main_call0_cst_59 : Ref sig .tc := ⟨.hbm, 224, rfl⟩
abbrev main_call0_v157 : Ref sig .tc := ⟨.hbm, 225, rfl⟩
abbrev main_call0_v158 : Ref sig .tc := ⟨.hbm, 226, rfl⟩
abbrev main_call0_c_60 : Ref sig .tc := ⟨.hbm, 227, rfl⟩
abbrev main_call0_v159 : Ref sig .tc := ⟨.hbm, 228, rfl⟩
abbrev main_call0_c_61 : Ref sig .tc := ⟨.hbm, 229, rfl⟩
abbrev main_call0_v160 : Ref sig .tc := ⟨.hbm, 230, rfl⟩
abbrev main_call0_v161 : Ref sig .tc := ⟨.hbm, 231, rfl⟩
abbrev main_call0_v162 : Ref sig .tc := ⟨.hbm, 232, rfl⟩
abbrev main_call0_v163 : Ref sig .tc := ⟨.hbm, 233, rfl⟩
abbrev main_call0_v164 : Ref sig .tc := ⟨.hbm, 234, rfl⟩
abbrev main_call0_cst_62 : Ref sig .tc := ⟨.hbm, 235, rfl⟩
abbrev main_call0_v165 : Ref sig .tc := ⟨.hbm, 236, rfl⟩
abbrev main_call0_v166 : Ref sig .tc := ⟨.hbm, 237, rfl⟩
abbrev main_call0_c_63 : Ref sig .tc := ⟨.hbm, 238, rfl⟩
abbrev main_call0_v167 : Ref sig .tc := ⟨.hbm, 239, rfl⟩
abbrev main_call0_c_64 : Ref sig .tc := ⟨.hbm, 240, rfl⟩
abbrev main_call0_v168 : Ref sig .tc := ⟨.hbm, 241, rfl⟩
abbrev main_call0_v169 : Ref sig .tc := ⟨.hbm, 242, rfl⟩
abbrev main_call0_v170 : Ref sig .tc := ⟨.hbm, 243, rfl⟩
abbrev main_call0_v171 : Ref sig .tc := ⟨.hbm, 244, rfl⟩
abbrev main_call0_v172 : Ref sig .tc := ⟨.hbm, 245, rfl⟩
abbrev main_call0_cst_65 : Ref sig .tc := ⟨.hbm, 246, rfl⟩
abbrev main_call0_v173 : Ref sig .tc := ⟨.hbm, 247, rfl⟩
abbrev main_call0_v174 : Ref sig .tc := ⟨.hbm, 248, rfl⟩
abbrev main_call0_c_66 : Ref sig .tc := ⟨.hbm, 249, rfl⟩
abbrev main_call0_v175 : Ref sig .tc := ⟨.hbm, 250, rfl⟩
abbrev main_call0_c_67 : Ref sig .tc := ⟨.hbm, 251, rfl⟩
abbrev main_call0_v176 : Ref sig .tc := ⟨.hbm, 252, rfl⟩
abbrev main_call0_v177 : Ref sig .tc := ⟨.hbm, 253, rfl⟩
abbrev main_call0_v178 : Ref sig .tc := ⟨.hbm, 254, rfl⟩
abbrev main_call0_v179 : Ref sig .tc := ⟨.hbm, 255, rfl⟩
abbrev main_call0_v180 : Ref sig .tc := ⟨.hbm, 256, rfl⟩
abbrev main_call0_cst_68 : Ref sig .tc := ⟨.hbm, 257, rfl⟩
abbrev main_call0_v181 : Ref sig .tc := ⟨.hbm, 258, rfl⟩
abbrev main_call0_v182 : Ref sig .tc := ⟨.hbm, 259, rfl⟩
abbrev main_call0_c_69 : Ref sig .tc := ⟨.hbm, 260, rfl⟩
abbrev main_call0_v183 : Ref sig .tc := ⟨.hbm, 261, rfl⟩
abbrev main_call0_c_70 : Ref sig .tc := ⟨.hbm, 262, rfl⟩
abbrev main_call0_v184 : Ref sig .tc := ⟨.hbm, 263, rfl⟩
abbrev main_call0_v185 : Ref sig .tc := ⟨.hbm, 264, rfl⟩
abbrev main_call0_v186 : Ref sig .tc := ⟨.hbm, 265, rfl⟩
abbrev main_call0_v187 : Ref sig .tc := ⟨.hbm, 266, rfl⟩
abbrev main_call0_v188 : Ref sig .tc := ⟨.hbm, 267, rfl⟩
abbrev main_call0_cst_71 : Ref sig .tc := ⟨.hbm, 268, rfl⟩
abbrev main_call0_v189 : Ref sig .tc := ⟨.hbm, 269, rfl⟩
abbrev main_call0_v190 : Ref sig .tc := ⟨.hbm, 270, rfl⟩
abbrev main_call0_c_72 : Ref sig .tc := ⟨.hbm, 271, rfl⟩
abbrev main_call0_v191 : Ref sig .tc := ⟨.hbm, 272, rfl⟩
abbrev main_call0_c_73 : Ref sig .tc := ⟨.hbm, 273, rfl⟩
abbrev main_call0_v192 : Ref sig .tc := ⟨.hbm, 274, rfl⟩
abbrev main_call0_v193 : Ref sig .tc := ⟨.hbm, 275, rfl⟩
abbrev main_call0_v194 : Ref sig .tc := ⟨.hbm, 276, rfl⟩
abbrev main_call0_v195 : Ref sig .tc := ⟨.hbm, 277, rfl⟩
abbrev main_call0_v196 : Ref sig .tc := ⟨.hbm, 278, rfl⟩
abbrev main_call0_cst_74 : Ref sig .tc := ⟨.hbm, 279, rfl⟩
abbrev main_call0_v197 : Ref sig .tc := ⟨.hbm, 280, rfl⟩
abbrev main_call0_v198 : Ref sig .tc := ⟨.hbm, 281, rfl⟩
abbrev main_call0_v199 : Ref sig .tc := ⟨.hbm, 282, rfl⟩
abbrev main_call0_v200 : Ref sig .tc := ⟨.hbm, 283, rfl⟩
abbrev main_v0 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x50x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x6400x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_r_cut" => some ((1 / 5 : ℝ) : EReal)
  | _ => none
-- ==== ReferenceIdeal.lean ====
abbrev S160000 : Shape := ⟨1, ![160000]⟩
abbrev S4x4x10x32 : Shape := ⟨4, ![4, 4, 10, 32]⟩
abbrev S4x4x32x32 : Shape := ⟨4, ![4, 4, 32, 32]⟩
abbrev S4x4x32x10 : Shape := ⟨4, ![4, 4, 32, 10]⟩
abbrev S4x10 : Shape := ⟨2, ![4, 10]⟩
abbrev S_ : Shape := ⟨0, ![]⟩
abbrev S4x1x10 : Shape := ⟨3, ![4, 1, 10]⟩
abbrev S1x160000x1 : Shape := ⟨3, ![1, 160000, 1]⟩
abbrev S4x160000x10 : Shape := ⟨3, ![4, 160000, 10]⟩
abbrev S1x160000 : Shape := ⟨2, ![1, 160000]⟩
abbrev S4x160000 : Shape := ⟨2, ![4, 160000]⟩
abbrev S4x160000x1 : Shape := ⟨3, ![4, 160000, 1]⟩
abbrev S4x1x10x32 : Shape := ⟨4, ![4, 1, 10, 32]⟩
abbrev S4x10x32 : Shape := ⟨3, ![4, 10, 32]⟩
abbrev S4x160000x32 : Shape := ⟨3, ![4, 160000, 32]⟩
abbrev S4x1x32x32 : Shape := ⟨4, ![4, 1, 32, 32]⟩
abbrev S4x32x32 : Shape := ⟨3, ![4, 32, 32]⟩
abbrev S4x1x32x10 : Shape := ⟨4, ![4, 1, 32, 10]⟩
abbrev S4x32x10 : Shape := ⟨3, ![4, 32, 10]⟩

abbrev nBuf : Space → Nat
  | .hbm => 288
  | .vmem => 0
  | .smem => 0
  | _ => 0

abbrev hbmTy0_0 (i : Nat) : BufTy := match i % 128 with
  | 0 => ⟨S160000, .f32⟩
  | 1 => ⟨S160000, .i32⟩
  | 2 => ⟨S4x4x10x32, .f32⟩
  | 3 => ⟨S4x4x32x32, .f32⟩
  | 4 => ⟨S4x4x32x32, .f32⟩
  | 5 => ⟨S4x4x32x10, .f32⟩
  | 6 => ⟨S4x10, .f32⟩
  | 7 => ⟨S_, .f32⟩
  | 8 => ⟨S160000, .f32⟩
  | 9 => ⟨S160000, .f32⟩
  | 10 => ⟨S4x1x10, .f32⟩
  | 11 => ⟨S1x160000x1, .f32⟩
  | 12 => ⟨S4x160000x10, .f32⟩
  | 13 => ⟨S4x160000x10, .f32⟩
  | 14 => ⟨S4x160000x10, .f32⟩
  | 15 => ⟨S_, .f32⟩
  | 16 => ⟨S160000, .f32⟩
  | 17 => ⟨S160000, .f32⟩
  | 18 => ⟨S160000, .f32⟩
  | 19 => ⟨S160000, .f32⟩
  | 20 => ⟨S1x160000, .f32⟩
  | 21 => ⟨S1x160000, .f32⟩
  | 22 => ⟨S1x160000, .f32⟩
  | 23 => ⟨S1x160000, .f32⟩
  | 24 => ⟨S4x160000, .f32⟩
  | 25 => ⟨S_, .f32⟩
  | 26 => ⟨S4x160000x10, .f32⟩
  | 27 => ⟨S4x160000x10, .f32⟩
  | 28 => ⟨S_, .f32⟩
  | 29 => ⟨S4x160000x10, .f32⟩
  | 30 => ⟨S4x160000x10, .f32⟩
  | 31 => ⟨S4x160000x10, .f32⟩
  | 32 => ⟨S_, .f32⟩
  | 33 => ⟨S4x160000x10, .f32⟩
  | 34 => ⟨S4x160000x10, .f32⟩
  | 35 => ⟨S4x160000x10, .f32⟩
  | 36 => ⟨S4x160000x10, .f32⟩
  | 37 => ⟨S4x160000x10, .f32⟩
  | 38 => ⟨S_, .f32⟩
  | 39 => ⟨S4x160000x10, .f32⟩
  | 40 => ⟨S4x160000x10, .f32⟩
  | 41 => ⟨S4x160000x10, .f32⟩
  | 42 => ⟨S4x160000x10, .f32⟩
  | 43 => ⟨S4x160000x10, .f32⟩
  | 44 => ⟨S4x160000x10, .f32⟩
  | 45 => ⟨S_, .f32⟩
  | 46 => ⟨S4x160000x10, .f32⟩
  | 47 => ⟨S4x160000x10, .f32⟩
  | 48 => ⟨S4x160000x10, .f32⟩
  | 49 => ⟨S4x160000x10, .f32⟩
  | 50 => ⟨S4x160000x10, .f32⟩
  | 51 => ⟨S4x160000x10, .f32⟩
  | 52 => ⟨S4x160000x10, .f32⟩
  | 53 => ⟨S_, .f32⟩
  | 54 => ⟨S4x160000x10, .f32⟩
  | 55 => ⟨S4x160000x10, .f32⟩
  | 56 => ⟨S4x160000x10, .f32⟩
  | 57 => ⟨S4x160000x10, .f32⟩
  | 58 => ⟨S_, .f32⟩
  | 59 => ⟨S4x160000x10, .f32⟩
  | 60 => ⟨S4x160000x10, .f32⟩
  | 61 => ⟨S_, .f32⟩
  | 62 => ⟨S4x160000x10, .f32⟩
  | 63 => ⟨S4x160000x10, .f32⟩
  | 64 => ⟨S4x160000x10, .f32⟩
  | 65 => ⟨S4x160000x10, .f32⟩
  | 66 => ⟨S_, .f32⟩
  | 67 => ⟨S4x160000x10, .f32⟩
  | 68 => ⟨S4x160000x10, .f32⟩
  | 69 => ⟨S4x160000x10, .f32⟩
  | 70 => ⟨S4x160000x10, .f32⟩
  | 71 => ⟨S4x160000x10, .f32⟩
  | 72 => ⟨S4x160000x10, .f32⟩
  | 73 => ⟨S_, .f32⟩
  | 74 => ⟨S4x160000x10, .f32⟩
  | 75 => ⟨S4x160000x10, .f32⟩
  | 76 => ⟨S4x160000x10, .f32⟩
  | 77 => ⟨S_, .f32⟩
  | 78 => ⟨S4x160000x10, .f32⟩
  | 79 => ⟨S4x160000x10, .f32⟩
  | 80 => ⟨S4x160000x10, .f32⟩
  | 81 => ⟨S_, .f32⟩
  | 82 => ⟨S4x160000x10, .f32⟩
  | 83 => ⟨S4x160000x10, .f32⟩
  | 84 => ⟨S4x160000x10, .f32⟩
  | 85 => ⟨S_, .f32⟩
  | 86 => ⟨S4x160000x10, .f32⟩
  | 87 => ⟨S4x160000x10, .i1⟩
  | 88 => ⟨S_, .f32⟩
  | 89 => ⟨S4x160000x10, .f32⟩
  | 90 => ⟨S4x160000x10, .i1⟩
  | 91 => ⟨S_, .f32⟩
  | 92 => ⟨S4x160000x10, .f32⟩
  | 93 => ⟨S4x160000x10, .i1⟩
  | 94 => ⟨S4x160000x10, .f32⟩
  | 95 => ⟨S4x160000x10, .f32⟩
  | 96 => ⟨S4x160000x10, .f32⟩
  | 97 => ⟨S4x160000x10, .f32⟩
  | 98 => ⟨S4x160000x10, .f32⟩
  | 99 => ⟨S_, .f32⟩
  | 100 => ⟨S4x160000x10, .f32⟩
  | 101 => ⟨S4x160000x10, .f32⟩
  | 102 => ⟨S4x160000x10, .f32⟩
  | 103 => ⟨S4x160000x1, .f32⟩
  | 104 => ⟨S4x160000x10, .f32⟩
  | 105 => ⟨S4x160000x10, .f32⟩
  | 106 => ⟨S_, .f32⟩
  | 107 => ⟨S4x160000x10, .f32⟩
  | 108 => ⟨S4x1x10x32, .f32⟩
  | 109 => ⟨S4x10x32, .f32⟩
  | 110 => ⟨S4x160000x32, .f32⟩
  | 111 => ⟨S4x160000x32, .f32⟩
  | 112 => ⟨S4x160000x32, .f32⟩
  | 113 => ⟨S_, .f32⟩
  | 114 => ⟨S4x160000x32, .f32⟩
  | 115 => ⟨S4x160000x32, .f32⟩
  | 116 => ⟨S_, .f32⟩
  | 117 => ⟨S4x160000x32, .f32⟩
  | 118 => ⟨S4x160000x32, .f32⟩
  | 119 => ⟨S4x160000x32, .f32⟩
  | 120 => ⟨S4x1x32x32, .f32⟩
  | 121 => ⟨S4x32x32, .f32⟩
  | 122 => ⟨S4x160000x32, .f32⟩
  | 123 => ⟨S4x160000x32, .f32⟩
  | 124 => ⟨S4x160000x32, .f32⟩
  | 125 => ⟨S_, .f32⟩
  | 126 => ⟨S4x160000x32, .f32⟩
  | 127 => ⟨S4x160000x32, .f32⟩
  | _ => ⟨S160000, .f32⟩

abbrev hbmTy0_1 (i : Nat) : BufTy := match i % 128 with
  | 0 => ⟨S_, .f32⟩
  | 1 => ⟨S4x160000x32, .f32⟩
  | 2 => ⟨S4x160000x32, .f32⟩
  | 3 => ⟨S4x160000x32, .f32⟩
  | 4 => ⟨S4x1x32x32, .f32⟩
  | 5 => ⟨S4x32x32, .f32⟩
  | 6 => ⟨S4x160000x32, .f32⟩
  | 7 => ⟨S4x160000x32, .f32⟩
  | 8 => ⟨S4x160000x32, .f32⟩
  | 9 => ⟨S_, .f32⟩
  | 10 => ⟨S4x160000x32, .f32⟩
  | 11 => ⟨S4x160000x32, .f32⟩
  | 12 => ⟨S_, .f32⟩
  | 13 => ⟨S4x160000x32, .f32⟩
  | 14 => ⟨S4x160000x32, .f32⟩
  | 15 => ⟨S4x160000x32, .f32⟩
  | 16 => ⟨S4x1x32x10, .f32⟩
  | 17 => ⟨S4x32x10, .f32⟩
  | 18 => ⟨S4x160000x10, .f32⟩
  | 19 => ⟨S_, .i32⟩
  | 20 => ⟨S160000, .i32⟩
  | 21 => ⟨S160000, .i1⟩
  | 22 => ⟨S1x160000x1, .i1⟩
  | 23 => ⟨S4x160000x10, .i1⟩
  | 24 => ⟨S4x160000x10, .f32⟩
  | 25 => ⟨S4x1x10x32, .f32⟩
  | 26 => ⟨S4x10x32, .f32⟩
  | 27 => ⟨S4x160000x32, .f32⟩
  | 28 => ⟨S4x160000x32, .f32⟩
  | 29 => ⟨S4x160000x32, .f32⟩
  | 30 => ⟨S_, .f32⟩
  | 31 => ⟨S4x160000x32, .f32⟩
  | 32 => ⟨S4x160000x32, .f32⟩
  | 33 => ⟨S_, .f32⟩
  | 34 => ⟨S4x160000x32, .f32⟩
  | 35 => ⟨S4x160000x32, .f32⟩
  | 36 => ⟨S4x160000x32, .f32⟩
  | 37 => ⟨S4x1x32x32, .f32⟩
  | 38 => ⟨S4x32x32, .f32⟩
  | 39 => ⟨S4x160000x32, .f32⟩
  | 40 => ⟨S4x160000x32, .f32⟩
  | 41 => ⟨S4x160000x32, .f32⟩
  | 42 => ⟨S_, .f32⟩
  | 43 => ⟨S4x160000x32, .f32⟩
  | 44 => ⟨S4x160000x32, .f32⟩
  | 45 => ⟨S_, .f32⟩
  | 46 => ⟨S4x160000x32, .f32⟩
  | 47 => ⟨S4x160000x32, .f32⟩
  | 48 => ⟨S4x160000x32, .f32⟩
  | 49 => ⟨S4x1x32x32, .f32⟩
  | 50 => ⟨S4x32x32, .f32⟩
  | 51 => ⟨S4x160000x32, .f32⟩
  | 52 => ⟨S4x160000x32, .f32⟩
  | 53 => ⟨S4x160000x32, .f32⟩
  | 54 => ⟨S_, .f32⟩
  | 55 => ⟨S4x160000x32, .f32⟩
  | 56 => ⟨S4x160000x32, .f32⟩
  | 57 => ⟨S_, .f32⟩
  | 58 => ⟨S4x160000x32, .f32⟩
  | 59 => ⟨S4x160000x32, .f32⟩
  | 60 => ⟨S4x160000x32, .f32⟩
  | 61 => ⟨S4x1x32x10, .f32⟩
  | 62 => ⟨S4x32x10, .f32⟩
  | 63 => ⟨S4x160000x10, .f32⟩
  | 64 => ⟨S_, .i32⟩
  | 65 => ⟨S160000, .i32⟩
  | 66 => ⟨S160000, .i1⟩
  | 67 => ⟨S1x160000x1, .i1⟩
  | 68 => ⟨S4x160000x10, .i1⟩
  | 69 => ⟨S4x160000x10, .f32⟩
  | 70 => ⟨S4x1x10x32, .f32⟩
  | 71 => ⟨S4x10x32, .f32⟩
  | 72 => ⟨S4x160000x32, .f32⟩
  | 73 => ⟨S4x160000x32, .f32⟩
  | 74 => ⟨S4x160000x32, .f32⟩
  | 75 => ⟨S_, .f32⟩
  | 76 => ⟨S4x160000x32, .f32⟩
  | 77 => ⟨S4x160000x32, .f32⟩
  | 78 => ⟨S_, .f32⟩
  | 79 => ⟨S4x160000x32, .f32⟩
  | 80 => ⟨S4x160000x32, .f32⟩
  | 81 => ⟨S4x160000x32, .f32⟩
  | 82 => ⟨S4x1x32x32, .f32⟩
  | 83 => ⟨S4x32x32, .f32⟩
  | 84 => ⟨S4x160000x32, .f32⟩
  | 85 => ⟨S4x160000x32, .f32⟩
  | 86 => ⟨S4x160000x32, .f32⟩
  | 87 => ⟨S_, .f32⟩
  | 88 => ⟨S4x160000x32, .f32⟩
  | 89 => ⟨S4x160000x32, .f32⟩
  | 90 => ⟨S_, .f32⟩
  | 91 => ⟨S4x160000x32, .f32⟩
  | 92 => ⟨S4x160000x32, .f32⟩
  | 93 => ⟨S4x160000x32, .f32⟩
  | 94 => ⟨S4x1x32x32, .f32⟩
  | 95 => ⟨S4x32x32, .f32⟩
  | 96 => ⟨S4x160000x32, .f32⟩
  | 97 => ⟨S4x160000x32, .f32⟩
  | 98 => ⟨S4x160000x32, .f32⟩
  | 99 => ⟨S_, .f32⟩
  | 100 => ⟨S4x160000x32, .f32⟩
  | 101 => ⟨S4x160000x32, .f32⟩
  | 102 => ⟨S_, .f32⟩
  | 103 => ⟨S4x160000x32, .f32⟩
  | 104 => ⟨S4x160000x32, .f32⟩
  | 105 => ⟨S4x160000x32, .f32⟩
  | 106 => ⟨S4x1x32x10, .f32⟩
  | 107 => ⟨S4x32x10, .f32⟩
  | 108 => ⟨S4x160000x10, .f32⟩
  | 109 => ⟨S_, .i32⟩
  | 110 => ⟨S160000, .i32⟩
  | 111 => ⟨S160000, .i1⟩
  | 112 => ⟨S1x160000x1, .i1⟩
  | 113 => ⟨S4x160000x10, .i1⟩
  | 114 => ⟨S4x160000x10, .f32⟩
  | 115 => ⟨S4x1x10x32, .f32⟩
  | 116 => ⟨S4x10x32, .f32⟩
  | 117 => ⟨S4x160000x32, .f32⟩
  | 118 => ⟨S4x160000x32, .f32⟩
  | 119 => ⟨S4x160000x32, .f32⟩
  | 120 => ⟨S_, .f32⟩
  | 121 => ⟨S4x160000x32, .f32⟩
  | 122 => ⟨S4x160000x32, .f32⟩
  | 123 => ⟨S_, .f32⟩
  | 124 => ⟨S4x160000x32, .f32⟩
  | 125 => ⟨S4x160000x32, .f32⟩
  | 126 => ⟨S4x160000x32, .f32⟩
  | 127 => ⟨S4x1x32x32, .f32⟩
  | _ => ⟨S160000, .f32⟩

abbrev hbmTy0_2 (i : Nat) : BufTy := match i % 128 with
  | 0 => ⟨S4x32x32, .f32⟩
  | 1 => ⟨S4x160000x32, .f32⟩
  | 2 => ⟨S4x160000x32, .f32⟩
  | 3 => ⟨S4x160000x32, .f32⟩
  | 4 => ⟨S_, .f32⟩
  | 5 => ⟨S4x160000x32, .f32⟩
  | 6 => ⟨S4x160000x32, .f32⟩
  | 7 => ⟨S_, .f32⟩
  | 8 => ⟨S4x160000x32, .f32⟩
  | 9 => ⟨S4x160000x32, .f32⟩
  | 10 => ⟨S4x160000x32, .f32⟩
  | 11 => ⟨S4x1x32x32, .f32⟩
  | 12 => ⟨S4x32x32, .f32⟩
  | 13 => ⟨S4x160000x32, .f32⟩
  | 14 => ⟨S4x160000x32, .f32⟩
  | 15 => ⟨S4x160000x32, .f32⟩
  | 16 => ⟨S_, .f32⟩
  | 17 => ⟨S4x160000x32, .f32⟩
  | 18 => ⟨S4x160000x32, .f32⟩
  | 19 => ⟨S_, .f32⟩
  | 20 => ⟨S4x160000x32, .f32⟩
  | 21 => ⟨S4x160000x32, .f32⟩
  | 22 => ⟨S4x160000x32, .f32⟩
  | 23 => ⟨S4x1x32x10, .f32⟩
  | 24 => ⟨S4x32x10, .f32⟩
  | 25 => ⟨S4x160000x10, .f32⟩
  | 26 => ⟨S_, .i32⟩
  | 27 => ⟨S160000, .i32⟩
  | 28 => ⟨S160000, .i1⟩
  | 29 => ⟨S1x160000x1, .i1⟩
  | 30 => ⟨S4x160000x10, .i1⟩
  | 31 => ⟨S4x160000x10, .f32⟩
  | _ => ⟨S160000, .f32⟩

abbrev hbmTy (i : Nat) : BufTy := match i / 128 with
  | 0 => hbmTy0_0 i
  | 1 => hbmTy0_1 i
  | 2 => hbmTy0_2 i
  | _ => ⟨S160000, .f32⟩

abbrev bufTy : (tb : Table) → Fin (tcTables nBuf tb) → BufTy
  | .hbm, ⟨i, _⟩ => hbmTy i
  | _, _ => ⟨S160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_17 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_call6_v0 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_call7_v0 : Ref sig .tc := ⟨.hbm, 156, rfl⟩
abbrev main_call7_v1 : Ref sig .tc := ⟨.hbm, 157, rfl⟩
abbrev main_call7_cst : Ref sig .tc := ⟨.hbm, 158, rfl⟩
abbrev main_call7_v2 : Ref sig .tc := ⟨.hbm, 159, rfl⟩
abbrev main_call7_v3 : Ref sig .tc := ⟨.hbm, 160, rfl⟩
abbrev main_call7_cst_0 : Ref sig .tc := ⟨.hbm, 161, rfl⟩
abbrev main_call7_v4 : Ref sig .tc := ⟨.hbm, 162, rfl⟩
abbrev main_call7_v5 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_call8_v0 : Ref sig .tc := ⟨.hbm, 168, rfl⟩
abbrev main_call8_v1 : Ref sig .tc := ⟨.hbm, 169, rfl⟩
abbrev main_call8_cst : Ref sig .tc := ⟨.hbm, 170, rfl⟩
abbrev main_call8_v2 : Ref sig .tc := ⟨.hbm, 171, rfl⟩
abbrev main_call8_v3 : Ref sig .tc := ⟨.hbm, 172, rfl⟩
abbrev main_call8_cst_0 : Ref sig .tc := ⟨.hbm, 173, rfl⟩
abbrev main_call8_v4 : Ref sig .tc := ⟨.hbm, 174, rfl⟩
abbrev main_call8_v5 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_call9_v0 : Ref sig .tc := ⟨.hbm, 180, rfl⟩
abbrev main_call9_v1 : Ref sig .tc := ⟨.hbm, 181, rfl⟩
abbrev main_call9_cst : Ref sig .tc := ⟨.hbm, 182, rfl⟩
abbrev main_call9_v2 : Ref sig .tc := ⟨.hbm, 183, rfl⟩
abbrev main_call9_v3 : Ref sig .tc := ⟨.hbm, 184, rfl⟩
abbrev main_call9_cst_0 : Ref sig .tc := ⟨.hbm, 185, rfl⟩
abbrev main_call9_v4 : Ref sig .tc := ⟨.hbm, 186, rfl⟩
abbrev main_call9_v5 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_c_19 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_call10_v0 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_call11_v0 : Ref sig .tc := ⟨.hbm, 201, rfl⟩
abbrev main_call11_v1 : Ref sig .tc := ⟨.hbm, 202, rfl⟩
abbrev main_call11_cst : Ref sig .tc := ⟨.hbm, 203, rfl⟩
abbrev main_call11_v2 : Ref sig .tc := ⟨.hbm, 204, rfl⟩
abbrev main_call11_v3 : Ref sig .tc := ⟨.hbm, 205, rfl⟩
abbrev main_call11_cst_0 : Ref sig .tc := ⟨.hbm, 206, rfl⟩
abbrev main_call11_v4 : Ref sig .tc := ⟨.hbm, 207, rfl⟩
abbrev main_call11_v5 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_call12_v0 : Ref sig .tc := ⟨.hbm, 213, rfl⟩
abbrev main_call12_v1 : Ref sig .tc := ⟨.hbm, 214, rfl⟩
abbrev main_call12_cst : Ref sig .tc := ⟨.hbm, 215, rfl⟩
abbrev main_call12_v2 : Ref sig .tc := ⟨.hbm, 216, rfl⟩
abbrev main_call12_v3 : Ref sig .tc := ⟨.hbm, 217, rfl⟩
abbrev main_call12_cst_0 : Ref sig .tc := ⟨.hbm, 218, rfl⟩
abbrev main_call12_v4 : Ref sig .tc := ⟨.hbm, 219, rfl⟩
abbrev main_call12_v5 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_call13_v0 : Ref sig .tc := ⟨.hbm, 225, rfl⟩
abbrev main_call13_v1 : Ref sig .tc := ⟨.hbm, 226, rfl⟩
abbrev main_call13_cst : Ref sig .tc := ⟨.hbm, 227, rfl⟩
abbrev main_call13_v2 : Ref sig .tc := ⟨.hbm, 228, rfl⟩
abbrev main_call13_v3 : Ref sig .tc := ⟨.hbm, 229, rfl⟩
abbrev main_call13_cst_0 : Ref sig .tc := ⟨.hbm, 230, rfl⟩
abbrev main_call13_v4 : Ref sig .tc := ⟨.hbm, 231, rfl⟩
abbrev main_call13_v5 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_c_20 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_call14_v0 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_call15_v0 : Ref sig .tc := ⟨.hbm, 246, rfl⟩
abbrev main_call15_v1 : Ref sig .tc := ⟨.hbm, 247, rfl⟩
abbrev main_call15_cst : Ref sig .tc := ⟨.hbm, 248, rfl⟩
abbrev main_call15_v2 : Ref sig .tc := ⟨.hbm, 249, rfl⟩
abbrev main_call15_v3 : Ref sig .tc := ⟨.hbm, 250, rfl⟩
abbrev main_call15_cst_0 : Ref sig .tc := ⟨.hbm, 251, rfl⟩
abbrev main_call15_v4 : Ref sig .tc := ⟨.hbm, 252, rfl⟩
abbrev main_call15_v5 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_call16_v0 : Ref sig .tc := ⟨.hbm, 258, rfl⟩
abbrev main_call16_v1 : Ref sig .tc := ⟨.hbm, 259, rfl⟩
abbrev main_call16_cst : Ref sig .tc := ⟨.hbm, 260, rfl⟩
abbrev main_call16_v2 : Ref sig .tc := ⟨.hbm, 261, rfl⟩
abbrev main_call16_v3 : Ref sig .tc := ⟨.hbm, 262, rfl⟩
abbrev main_call16_cst_0 : Ref sig .tc := ⟨.hbm, 263, rfl⟩
abbrev main_call16_v4 : Ref sig .tc := ⟨.hbm, 264, rfl⟩
abbrev main_call16_v5 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_call17_v0 : Ref sig .tc := ⟨.hbm, 270, rfl⟩
abbrev main_call17_v1 : Ref sig .tc := ⟨.hbm, 271, rfl⟩
abbrev main_call17_cst : Ref sig .tc := ⟨.hbm, 272, rfl⟩
abbrev main_call17_v2 : Ref sig .tc := ⟨.hbm, 273, rfl⟩
abbrev main_call17_v3 : Ref sig .tc := ⟨.hbm, 274, rfl⟩
abbrev main_call17_cst_0 : Ref sig .tc := ⟨.hbm, 275, rfl⟩
abbrev main_call17_v4 : Ref sig .tc := ⟨.hbm, 276, rfl⟩
abbrev main_call17_v5 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_c_21 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_call18_v0 : Ref sig .tc := ⟨.hbm, 286, rfl⟩
abbrev main_v157 : Ref sig .tc := ⟨.hbm, 287, rfl⟩

abbrev nD : Nat := 1
abbrev τ : Topo := Topo.v7x

variable {F : FTy → Type} [FloatOps F]
-- ==== KernelSin.lean ====
abbrev S160000 : Shape := ⟨1, ![160000]⟩
abbrev S4x4x10x32 : Shape := ⟨4, ![4, 4, 10, 32]⟩
abbrev S4x4x32x32 : Shape := ⟨4, ![4, 4, 32, 32]⟩
abbrev S4x4x32x10 : Shape := ⟨4, ![4, 4, 32, 10]⟩
abbrev S8x128 : Shape := ⟨2, ![8, 128]⟩
abbrev S_ : Shape := ⟨0, ![]⟩
abbrev S40x512 : Shape := ⟨2, ![40, 512]⟩
abbrev S4x128x128 : Shape := ⟨3, ![4, 128, 128]⟩
abbrev S1x1x10x32 : Shape := ⟨4, ![1, 1, 10, 32]⟩
abbrev S10x32 : Shape := ⟨2, ![10, 32]⟩
abbrev S1 : Shape := ⟨1, ![1]⟩
abbrev S2 : Shape := ⟨1, ![2]⟩
abbrev S4x1x32x32 : Shape := ⟨4, ![4, 1, 32, 32]⟩
abbrev S4x32x32 : Shape := ⟨3, ![4, 32, 32]⟩
abbrev S4x128x10 : Shape := ⟨3, ![4, 128, 10]⟩
abbrev S25x50x128 : Shape := ⟨3, ![25, 50, 128]⟩
abbrev S4x160000x10 : Shape := ⟨3, ![4, 160000, 10]⟩
abbrev S1x50x128 : Shape := ⟨3, ![1, 50, 128]⟩
abbrev S4x6400x10 : Shape := ⟨3, ![4, 6400, 10]⟩
abbrev S50x128 : Shape := ⟨2, ![50, 128]⟩
abbrev S12x128 : Shape := ⟨2, ![12, 128]⟩
abbrev S128x12 : Shape := ⟨2, ![128, 12]⟩
abbrev S128x1 : Shape := ⟨2, ![128, 1]⟩
abbrev S1536x1 : Shape := ⟨2, ![1536, 1]⟩
abbrev S1x40 : Shape := ⟨2, ![1, 40]⟩
abbrev S1x128 : Shape := ⟨2, ![1, 128]⟩
abbrev S1536x40 : Shape := ⟨2, ![1536, 40]⟩
abbrev S1536x128 : Shape := ⟨2, ![1536, 128]⟩
abbrev S1536x512 : Shape := ⟨2, ![1536, 512]⟩
abbrev S1x128x128 : Shape := ⟨3, ![1, 128, 128]⟩
abbrev S128x128 : Shape := ⟨2, ![128, 128]⟩
abbrev S1x128x10 : Shape := ⟨3, ![1, 128, 10]⟩
abbrev S128x10 : Shape := ⟨2, ![128, 10]⟩
abbrev S1536x10 : Shape := ⟨2, ![1536, 10]⟩
abbrev S1x1536x10 : Shape := ⟨3, ![1, 1536, 10]⟩
abbrev S13x128 : Shape := ⟨2, ![13, 128]⟩
abbrev S128x13 : Shape := ⟨2, ![128, 13]⟩
abbrev S1664x1 : Shape := ⟨2, ![1664, 1]⟩
abbrev S1664x40 : Shape := ⟨2, ![1664, 40]⟩
abbrev S1664x128 : Shape := ⟨2, ![1664, 128]⟩
abbrev S1664x512 : Shape := ⟨2, ![1664, 512]⟩
abbrev S1664x10 : Shape := ⟨2, ![1664, 10]⟩
abbrev S1x1664x10 : Shape := ⟨3, ![1, 1664, 10]⟩

abbrev nBuf : Space → Nat
  | .hbm => 285
  | .vmem => 9
  | .smem => 0
  | _ => 0

abbrev hbmTy0_0 (i : Nat) : BufTy := match i % 128 with
  | 0 => ⟨S160000, .f32⟩
  | 1 => ⟨S160000, .i32⟩
  | 2 => ⟨S4x4x10x32, .f32⟩
  | 3 => ⟨S4x4x32x32, .f32⟩
  | 4 => ⟨S4x4x32x32, .f32⟩
  | 5 => ⟨S4x4x32x10, .f32⟩
  | 6 => ⟨S8x128, .f32⟩
  | 7 => ⟨S_, .f32⟩
  | 8 => ⟨S40x512, .f32⟩
  | 9 => ⟨S_, .f32⟩
  | 10 => ⟨S4x128x128, .f32⟩
  | 11 => ⟨S_, .f32⟩
  | 12 => ⟨S4x128x128, .f32⟩
  | 13 => ⟨S1x1x10x32, .f32⟩
  | 14 => ⟨S10x32, .f32⟩
  | 15 => ⟨S_, .f32⟩
  | 16 => ⟨S10x32, .f32⟩
  | 17 => ⟨S10x32, .f32⟩
  | 18 => ⟨S_, .i32⟩
  | 19 => ⟨S1, .i32⟩
  | 20 => ⟨S_, .i32⟩
  | 21 => ⟨S1, .i32⟩
  | 22 => ⟨S2, .i32⟩
  | 23 => ⟨S40x512, .f32⟩
  | 24 => ⟨S1x1x10x32, .f32⟩
  | 25 => ⟨S10x32, .f32⟩
  | 26 => ⟨S_, .f32⟩
  | 27 => ⟨S10x32, .f32⟩
  | 28 => ⟨S10x32, .f32⟩
  | 29 => ⟨S_, .i32⟩
  | 30 => ⟨S1, .i32⟩
  | 31 => ⟨S_, .i32⟩
  | 32 => ⟨S1, .i32⟩
  | 33 => ⟨S2, .i32⟩
  | 34 => ⟨S40x512, .f32⟩
  | 35 => ⟨S1x1x10x32, .f32⟩
  | 36 => ⟨S10x32, .f32⟩
  | 37 => ⟨S_, .f32⟩
  | 38 => ⟨S10x32, .f32⟩
  | 39 => ⟨S10x32, .f32⟩
  | 40 => ⟨S_, .i32⟩
  | 41 => ⟨S1, .i32⟩
  | 42 => ⟨S_, .i32⟩
  | 43 => ⟨S1, .i32⟩
  | 44 => ⟨S2, .i32⟩
  | 45 => ⟨S40x512, .f32⟩
  | 46 => ⟨S1x1x10x32, .f32⟩
  | 47 => ⟨S10x32, .f32⟩
  | 48 => ⟨S_, .f32⟩
  | 49 => ⟨S10x32, .f32⟩
  | 50 => ⟨S10x32, .f32⟩
  | 51 => ⟨S_, .i32⟩
  | 52 => ⟨S1, .i32⟩
  | 53 => ⟨S_, .i32⟩
  | 54 => ⟨S1, .i32⟩
  | 55 => ⟨S2, .i32⟩
  | 56 => ⟨S40x512, .f32⟩
  | 57 => ⟨S1x1x10x32, .f32⟩
  | 58 => ⟨S10x32, .f32⟩
  | 59 => ⟨S_, .f32⟩
  | 60 => ⟨S10x32, .f32⟩
  | 61 => ⟨S10x32, .f32⟩
  | 62 => ⟨S_, .i32⟩
  | 63 => ⟨S1, .i32⟩
  | 64 => ⟨S_, .i32⟩
  | 65 => ⟨S1, .i32⟩
  | 66 => ⟨S2, .i32⟩
  | 67 => ⟨S40x512, .f32⟩
  | 68 => ⟨S1x1x10x32, .f32⟩
  | 69 => ⟨S10x32, .f32⟩
  | 70 => ⟨S_, .f32⟩
  | 71 => ⟨S10x32, .f32⟩
  | 72 => ⟨S10x32, .f32⟩
  | 73 => ⟨S_, .i32⟩
  | 74 => ⟨S1, .i32⟩
  | 75 => ⟨S_, .i32⟩
  | 76 => ⟨S1, .i32⟩
  | 77 => ⟨S2, .i32⟩
  | 78 => ⟨S40x512, .f32⟩
  | 79 => ⟨S1x1x10x32, .f32⟩
  | 80 => ⟨S10x32, .f32⟩
  | 81 => ⟨S_, .f32⟩
  | 82 => ⟨S10x32, .f32⟩
  | 83 => ⟨S10x32, .f32⟩
  | 84 => ⟨S_, .i32⟩
  | 85 => ⟨S1, .i32⟩
  | 86 => ⟨S_, .i32⟩
  | 87 => ⟨S1, .i32⟩
  | 88 => ⟨S2, .i32⟩
  | 89 => ⟨S40x512, .f32⟩
  | 90 => ⟨S1x1x10x32, .f32⟩
  | 91 => ⟨S10x32, .f32⟩
  | 92 => ⟨S_, .f32⟩
  | 93 => ⟨S10x32, .f32⟩
  | 94 => ⟨S10x32, .f32⟩
  | 95 => ⟨S_, .i32⟩
  | 96 => ⟨S1, .i32⟩
  | 97 => ⟨S_, .i32⟩
  | 98 => ⟨S1, .i32⟩
  | 99 => ⟨S2, .i32⟩
  | 100 => ⟨S40x512, .f32⟩
  | 101 => ⟨S1x1x10x32, .f32⟩
  | 102 => ⟨S10x32, .f32⟩
  | 103 => ⟨S_, .f32⟩
  | 104 => ⟨S10x32, .f32⟩
  | 105 => ⟨S10x32, .f32⟩
  | 106 => ⟨S_, .i32⟩
  | 107 => ⟨S1, .i32⟩
  | 108 => ⟨S_, .i32⟩
  | 109 => ⟨S1, .i32⟩
  | 110 => ⟨S2, .i32⟩
  | 111 => ⟨S40x512, .f32⟩
  | 112 => ⟨S1x1x10x32, .f32⟩
  | 113 => ⟨S10x32, .f32⟩
  | 114 => ⟨S_, .f32⟩
  | 115 => ⟨S10x32, .f32⟩
  | 116 => ⟨S10x32, .f32⟩
  | 117 => ⟨S_, .i32⟩
  | 118 => ⟨S1, .i32⟩
  | 119 => ⟨S_, .i32⟩
  | 120 => ⟨S1, .i32⟩
  | 121 => ⟨S2, .i32⟩
  | 122 => ⟨S40x512, .f32⟩
  | 123 => ⟨S1x1x10x32, .f32⟩
  | 124 => ⟨S10x32, .f32⟩
  | 125 => ⟨S_, .f32⟩
  | 126 => ⟨S10x32, .f32⟩
  | 127 => ⟨S10x32, .f32⟩
  | _ => ⟨S160000, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S40x512, .f32⟩
  | 6 => ⟨S1x1x10x32, .f32⟩
  | 7 => ⟨S10x32, .f32⟩
  | 8 => ⟨S_, .f32⟩
  | 9 => ⟨S10x32, .f32⟩
  | 10 => ⟨S10x32, .f32⟩
  | 11 => ⟨S_, .i32⟩
  | 12 => ⟨S1, .i32⟩
  | 13 => ⟨S_, .i32⟩
  | 14 => ⟨S1, .i32⟩
  | 15 => ⟨S2, .i32⟩
  | 16 => ⟨S40x512, .f32⟩
  | 17 => ⟨S1x1x10x32, .f32⟩
  | 18 => ⟨S10x32, .f32⟩
  | 19 => ⟨S_, .f32⟩
  | 20 => ⟨S10x32, .f32⟩
  | 21 => ⟨S10x32, .f32⟩
  | 22 => ⟨S_, .i32⟩
  | 23 => ⟨S1, .i32⟩
  | 24 => ⟨S_, .i32⟩
  | 25 => ⟨S1, .i32⟩
  | 26 => ⟨S2, .i32⟩
  | 27 => ⟨S40x512, .f32⟩
  | 28 => ⟨S1x1x10x32, .f32⟩
  | 29 => ⟨S10x32, .f32⟩
  | 30 => ⟨S_, .f32⟩
  | 31 => ⟨S10x32, .f32⟩
  | 32 => ⟨S10x32, .f32⟩
  | 33 => ⟨S_, .i32⟩
  | 34 => ⟨S1, .i32⟩
  | 35 => ⟨S_, .i32⟩
  | 36 => ⟨S1, .i32⟩
  | 37 => ⟨S2, .i32⟩
  | 38 => ⟨S40x512, .f32⟩
  | 39 => ⟨S1x1x10x32, .f32⟩
  | 40 => ⟨S10x32, .f32⟩
  | 41 => ⟨S_, .f32⟩
  | 42 => ⟨S10x32, .f32⟩
  | 43 => ⟨S10x32, .f32⟩
  | 44 => ⟨S_, .i32⟩
  | 45 => ⟨S1, .i32⟩
  | 46 => ⟨S_, .i32⟩
  | 47 => ⟨S1, .i32⟩
  | 48 => ⟨S2, .i32⟩
  | 49 => ⟨S40x512, .f32⟩
  | 50 => ⟨S1x1x10x32, .f32⟩
  | 51 => ⟨S10x32, .f32⟩
  | 52 => ⟨S_, .f32⟩
  | 53 => ⟨S10x32, .f32⟩
  | 54 => ⟨S10x32, .f32⟩
  | 55 => ⟨S_, .i32⟩
  | 56 => ⟨S1, .i32⟩
  | 57 => ⟨S_, .i32⟩
  | 58 => ⟨S1, .i32⟩
  | 59 => ⟨S2, .i32⟩
  | 60 => ⟨S40x512, .f32⟩
  | 61 => ⟨S4x1x32x32, .f32⟩
  | 62 => ⟨S4x32x32, .f32⟩
  | 63 => ⟨S_, .f32⟩
  | 64 => ⟨S4x32x32, .f32⟩
  | 65 => ⟨S4x32x32, .f32⟩
  | 66 => ⟨S_, .i32⟩
  | 67 => ⟨S1, .i32⟩
  | 68 => ⟨S_, .i32⟩
  | 69 => ⟨S1, .i32⟩
  | 70 => ⟨S2, .i32⟩
  | 71 => ⟨S4x128x128, .f32⟩
  | 72 => ⟨S4x1x32x32, .f32⟩
  | 73 => ⟨S4x32x32, .f32⟩
  | 74 => ⟨S_, .f32⟩
  | 75 => ⟨S4x32x32, .f32⟩
  | 76 => ⟨S4x32x32, .f32⟩
  | 77 => ⟨S_, .i32⟩
  | 78 => ⟨S1, .i32⟩
  | 79 => ⟨S_, .i32⟩
  | 80 => ⟨S1, .i32⟩
  | 81 => ⟨S2, .i32⟩
  | 82 => ⟨S4x128x128, .f32⟩
  | 83 => ⟨S4x1x32x32, .f32⟩
  | 84 => ⟨S4x32x32, .f32⟩
  | 85 => ⟨S_, .f32⟩
  | 86 => ⟨S4x32x32, .f32⟩
  | 87 => ⟨S4x32x32, .f32⟩
  | 88 => ⟨S_, .i32⟩
  | 89 => ⟨S1, .i32⟩
  | 90 => ⟨S_, .i32⟩
  | 91 => ⟨S1, .i32⟩
  | 92 => ⟨S2, .i32⟩
  | 93 => ⟨S4x128x128, .f32⟩
  | 94 => ⟨S4x1x32x32, .f32⟩
  | 95 => ⟨S4x32x32, .f32⟩
  | 96 => ⟨S_, .f32⟩
  | 97 => ⟨S4x32x32, .f32⟩
  | 98 => ⟨S4x32x32, .f32⟩
  | 99 => ⟨S_, .i32⟩
  | 100 => ⟨S1, .i32⟩
  | 101 => ⟨S_, .i32⟩
  | 102 => ⟨S1, .i32⟩
  | 103 => ⟨S2, .i32⟩
  | 104 => ⟨S4x128x128, .f32⟩
  | 105 => ⟨S4x1x32x32, .f32⟩
  | 106 => ⟨S4x32x32, .f32⟩
  | 107 => ⟨S_, .f32⟩
  | 108 => ⟨S4x32x32, .f32⟩
  | 109 => ⟨S4x32x32, .f32⟩
  | 110 => ⟨S_, .i32⟩
  | 111 => ⟨S1, .i32⟩
  | 112 => ⟨S_, .i32⟩
  | 113 => ⟨S1, .i32⟩
  | 114 => ⟨S2, .i32⟩
  | 115 => ⟨S4x128x128, .f32⟩
  | 116 => ⟨S4x1x32x32, .f32⟩
  | 117 => ⟨S4x32x32, .f32⟩
  | 118 => ⟨S_, .f32⟩
  | 119 => ⟨S4x32x32, .f32⟩
  | 120 => ⟨S4x32x32, .f32⟩
  | 121 => ⟨S_, .i32⟩
  | 122 => ⟨S1, .i32⟩
  | 123 => ⟨S_, .i32⟩
  | 124 => ⟨S1, .i32⟩
  | 125 => ⟨S2, .i32⟩
  | 126 => ⟨S4x128x128, .f32⟩
  | 127 => ⟨S4x1x32x32, .f32⟩
  | _ => ⟨S160000, .f32⟩

abbrev hbmTy0_2 (i : Nat) : BufTy := match i % 128 with
  | 0 => ⟨S4x32x32, .f32⟩
  | 1 => ⟨S_, .f32⟩
  | 2 => ⟨S4x32x32, .f32⟩
  | 3 => ⟨S4x32x32, .f32⟩
  | 4 => ⟨S_, .i32⟩
  | 5 => ⟨S1, .i32⟩
  | 6 => ⟨S_, .i32⟩
  | 7 => ⟨S1, .i32⟩
  | 8 => ⟨S2, .i32⟩
  | 9 => ⟨S4x128x128, .f32⟩
  | 10 => ⟨S4x1x32x32, .f32⟩
  | 11 => ⟨S4x32x32, .f32⟩
  | 12 => ⟨S_, .f32⟩
  | 13 => ⟨S4x32x32, .f32⟩
  | 14 => ⟨S4x32x32, .f32⟩
  | 15 => ⟨S_, .i32⟩
  | 16 => ⟨S1, .i32⟩
  | 17 => ⟨S_, .i32⟩
  | 18 => ⟨S1, .i32⟩
  | 19 => ⟨S2, .i32⟩
  | 20 => ⟨S4x128x128, .f32⟩
  | 21 => ⟨S4x128x10, .f32⟩
  | 22 => ⟨S160000, .f32⟩
  | 23 => ⟨S_, .f32⟩
  | 24 => ⟨S160000, .f32⟩
  | 25 => ⟨S160000, .f32⟩
  | 26 => ⟨S160000, .f32⟩
  | 27 => ⟨S25x50x128, .f32⟩
  | 28 => ⟨S4x160000x10, .f32⟩
  | _ => ⟨S160000, .f32⟩

abbrev hbmTy (i : Nat) : BufTy := match i / 128 with
  | 0 => hbmTy0_0 i
  | 1 => hbmTy0_1 i
  | 2 => hbmTy0_2 i
  | _ => ⟨S160000, .f32⟩

abbrev bufTy : (tb : Table) → Fin (tcTables nBuf tb) → BufTy
  | .hbm, ⟨i, _⟩ => hbmTy i
  | .local _ .vmem, ⟨0, _⟩ => ⟨S1x50x128, .f32⟩
  | .local _ .vmem, ⟨1, _⟩ => ⟨S1x50x128, .f32⟩
  | .local _ .vmem, ⟨2, _⟩ => ⟨S8x128, .f32⟩
  | .local _ .vmem, ⟨3, _⟩ => ⟨S40x512, .f32⟩
  | .local _ .vmem, ⟨4, _⟩ => ⟨S4x128x128, .f32⟩
  | .local _ .vmem, ⟨5, _⟩ => ⟨S4x128x128, .f32⟩
  | .local _ .vmem, ⟨6, _⟩ => ⟨S4x128x10, .f32⟩
  | .local _ .vmem, ⟨7, _⟩ => ⟨S4x6400x10, .f32⟩
  | .local _ .vmem, ⟨8, _⟩ => ⟨S4x6400x10, .f32⟩
  | _, _ => ⟨S160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_cst_0 : Ref sig .tc := ⟨.hbm, 7, rfl⟩
abbrev main_call0_v0 : Ref sig .tc := ⟨.hbm, 8, rfl⟩
abbrev main_call0_cst_1 : Ref sig .tc := ⟨.hbm, 9, rfl⟩
abbrev main_call0_v1 : Ref sig .tc := ⟨.hbm, 10, rfl⟩
abbrev main_call0_cst_2 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst_3 : Ref sig .tc := ⟨.hbm, 15, rfl⟩
abbrev main_call0_v5 : Ref sig .tc := ⟨.hbm, 16, rfl⟩
abbrev main_call0_v6 : Ref sig .tc := ⟨.hbm, 17, rfl⟩
abbrev main_call0_c : Ref sig .tc := ⟨.hbm, 18, rfl⟩
abbrev main_call0_v7 : Ref sig .tc := ⟨.hbm, 19, rfl⟩
abbrev main_call0_c_4 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_5 : Ref sig .tc := ⟨.hbm, 26, rfl⟩
abbrev main_call0_v13 : Ref sig .tc := ⟨.hbm, 27, rfl⟩
abbrev main_call0_v14 : Ref sig .tc := ⟨.hbm, 28, rfl⟩
abbrev main_call0_c_6 : Ref sig .tc := ⟨.hbm, 29, rfl⟩
abbrev main_call0_v15 : Ref sig .tc := ⟨.hbm, 30, rfl⟩
abbrev main_call0_c_7 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_cst_8 : Ref sig .tc := ⟨.hbm, 37, rfl⟩
abbrev main_call0_v21 : Ref sig .tc := ⟨.hbm, 38, rfl⟩
abbrev main_call0_v22 : Ref sig .tc := ⟨.hbm, 39, rfl⟩
abbrev main_call0_c_9 : Ref sig .tc := ⟨.hbm, 40, rfl⟩
abbrev main_call0_v23 : Ref sig .tc := ⟨.hbm, 41, rfl⟩
abbrev main_call0_c_10 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_cst_11 : Ref sig .tc := ⟨.hbm, 48, rfl⟩
abbrev main_call0_v29 : Ref sig .tc := ⟨.hbm, 49, rfl⟩
abbrev main_call0_v30 : Ref sig .tc := ⟨.hbm, 50, rfl⟩
abbrev main_call0_c_12 : Ref sig .tc := ⟨.hbm, 51, rfl⟩
abbrev main_call0_v31 : Ref sig .tc := ⟨.hbm, 52, rfl⟩
abbrev main_call0_c_13 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_cst_14 : Ref sig .tc := ⟨.hbm, 59, rfl⟩
abbrev main_call0_v37 : Ref sig .tc := ⟨.hbm, 60, rfl⟩
abbrev main_call0_v38 : Ref sig .tc := ⟨.hbm, 61, rfl⟩
abbrev main_call0_c_15 : Ref sig .tc := ⟨.hbm, 62, rfl⟩
abbrev main_call0_v39 : Ref sig .tc := ⟨.hbm, 63, rfl⟩
abbrev main_call0_c_16 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_cst_17 : Ref sig .tc := ⟨.hbm, 70, rfl⟩
abbrev main_call0_v45 : Ref sig .tc := ⟨.hbm, 71, rfl⟩
abbrev main_call0_v46 : Ref sig .tc := ⟨.hbm, 72, rfl⟩
abbrev main_call0_c_18 : Ref sig .tc := ⟨.hbm, 73, rfl⟩
abbrev main_call0_v47 : Ref sig .tc := ⟨.hbm, 74, rfl⟩
abbrev main_call0_c_19 : Ref sig .tc := ⟨.hbm, 75, rfl⟩
abbrev main_call0_v48 : Ref sig .tc := ⟨.hbm, 76, rfl⟩
abbrev main_call0_v49 : Ref sig .tc := ⟨.hbm, 77, rfl⟩
abbrev main_call0_v50 : Ref sig .tc := ⟨.hbm, 78, rfl⟩
abbrev main_call0_v51 : Ref sig .tc := ⟨.hbm, 79, rfl⟩
abbrev main_call0_v52 : Ref sig .tc := ⟨.hbm, 80, rfl⟩
abbrev main_call0_cst_20 : Ref sig .tc := ⟨.hbm, 81, rfl⟩
abbrev main_call0_v53 : Ref sig .tc := ⟨.hbm, 82, rfl⟩
abbrev main_call0_v54 : Ref sig .tc := ⟨.hbm, 83, rfl⟩
abbrev main_call0_c_21 : Ref sig .tc := ⟨.hbm, 84, rfl⟩
abbrev main_call0_v55 : Ref sig .tc := ⟨.hbm, 85, rfl⟩
abbrev main_call0_c_22 : Ref sig .tc := ⟨.hbm, 86, rfl⟩
abbrev main_call0_v56 : Ref sig .tc := ⟨.hbm, 87, rfl⟩
abbrev main_call0_v57 : Ref sig .tc := ⟨.hbm, 88, rfl⟩
abbrev main_call0_v58 : Ref sig .tc := ⟨.hbm, 89, rfl⟩
abbrev main_call0_v59 : Ref sig .tc := ⟨.hbm, 90, rfl⟩
abbrev main_call0_v60 : Ref sig .tc := ⟨.hbm, 91, rfl⟩
abbrev main_call0_cst_23 : Ref sig .tc := ⟨.hbm, 92, rfl⟩
abbrev main_call0_v61 : Ref sig .tc := ⟨.hbm, 93, rfl⟩
abbrev main_call0_v62 : Ref sig .tc := ⟨.hbm, 94, rfl⟩
abbrev main_call0_c_24 : Ref sig .tc := ⟨.hbm, 95, rfl⟩
abbrev main_call0_v63 : Ref sig .tc := ⟨.hbm, 96, rfl⟩
abbrev main_call0_c_25 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_v67 : Ref sig .tc := ⟨.hbm, 101, rfl⟩
abbrev main_call0_v68 : Ref sig .tc := ⟨.hbm, 102, rfl⟩
abbrev main_call0_cst_26 : Ref sig .tc := ⟨.hbm, 103, rfl⟩
abbrev main_call0_v69 : Ref sig .tc := ⟨.hbm, 104, rfl⟩
abbrev main_call0_v70 : Ref sig .tc := ⟨.hbm, 105, rfl⟩
abbrev main_call0_c_27 : Ref sig .tc := ⟨.hbm, 106, rfl⟩
abbrev main_call0_v71 : Ref sig .tc := ⟨.hbm, 107, rfl⟩
abbrev main_call0_c_28 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_v75 : Ref sig .tc := ⟨.hbm, 112, rfl⟩
abbrev main_call0_v76 : Ref sig .tc := ⟨.hbm, 113, rfl⟩
abbrev main_call0_cst_29 : Ref sig .tc := ⟨.hbm, 114, rfl⟩
abbrev main_call0_v77 : Ref sig .tc := ⟨.hbm, 115, rfl⟩
abbrev main_call0_v78 : Ref sig .tc := ⟨.hbm, 116, rfl⟩
abbrev main_call0_c_30 : Ref sig .tc := ⟨.hbm, 117, rfl⟩
abbrev main_call0_v79 : Ref sig .tc := ⟨.hbm, 118, rfl⟩
abbrev main_call0_c_31 : Ref sig .tc := ⟨.hbm, 119, rfl⟩
abbrev main_call0_v80 : Ref sig .tc := ⟨.hbm, 120, rfl⟩
abbrev main_call0_v81 : Ref sig .tc := ⟨.hbm, 121, rfl⟩
abbrev main_call0_v82 : Ref sig .tc := ⟨.hbm, 122, rfl⟩
abbrev main_call0_v83 : Ref sig .tc := ⟨.hbm, 123, rfl⟩
abbrev main_call0_v84 : Ref sig .tc := ⟨.hbm, 124, rfl⟩
abbrev main_call0_cst_32 : Ref sig .tc := ⟨.hbm, 125, rfl⟩
abbrev main_call0_v85 : Ref sig .tc := ⟨.hbm, 126, rfl⟩
abbrev main_call0_v86 : Ref sig .tc := ⟨.hbm, 127, rfl⟩
abbrev main_call0_c_33 : Ref sig .tc := ⟨.hbm, 128, rfl⟩
abbrev main_call0_v87 : Ref sig .tc := ⟨.hbm, 129, rfl⟩
abbrev main_call0_c_34 : Ref sig .tc := ⟨.hbm, 130, rfl⟩
abbrev main_call0_v88 : Ref sig .tc := ⟨.hbm, 131, rfl⟩
abbrev main_call0_v89 : Ref sig .tc := ⟨.hbm, 132, rfl⟩
abbrev main_call0_v90 : Ref sig .tc := ⟨.hbm, 133, rfl⟩
abbrev main_call0_v91 : Ref sig .tc := ⟨.hbm, 134, rfl⟩
abbrev main_call0_v92 : Ref sig .tc := ⟨.hbm, 135, rfl⟩
abbrev main_call0_cst_35 : Ref sig .tc := ⟨.hbm, 136, rfl⟩
abbrev main_call0_v93 : Ref sig .tc := ⟨.hbm, 137, rfl⟩
abbrev main_call0_v94 : Ref sig .tc := ⟨.hbm, 138, rfl⟩
abbrev main_call0_c_36 : Ref sig .tc := ⟨.hbm, 139, rfl⟩
abbrev main_call0_v95 : Ref sig .tc := ⟨.hbm, 140, rfl⟩
abbrev main_call0_c_37 : Ref sig .tc := ⟨.hbm, 141, rfl⟩
abbrev main_call0_v96 : Ref sig .tc := ⟨.hbm, 142, rfl⟩
abbrev main_call0_v97 : Ref sig .tc := ⟨.hbm, 143, rfl⟩
abbrev main_call0_v98 : Ref sig .tc := ⟨.hbm, 144, rfl⟩
abbrev main_call0_v99 : Ref sig .tc := ⟨.hbm, 145, rfl⟩
abbrev main_call0_v100 : Ref sig .tc := ⟨.hbm, 146, rfl⟩
abbrev main_call0_cst_38 : Ref sig .tc := ⟨.hbm, 147, rfl⟩
abbrev main_call0_v101 : Ref sig .tc := ⟨.hbm, 148, rfl⟩
abbrev main_call0_v102 : Ref sig .tc := ⟨.hbm, 149, rfl⟩
abbrev main_call0_c_39 : Ref sig .tc := ⟨.hbm, 150, rfl⟩
abbrev main_call0_v103 : Ref sig .tc := ⟨.hbm, 151, rfl⟩
abbrev main_call0_c_40 : Ref sig .tc := ⟨.hbm, 152, rfl⟩
abbrev main_call0_v104 : Ref sig .tc := ⟨.hbm, 153, rfl⟩
abbrev main_call0_v105 : Ref sig .tc := ⟨.hbm, 154, rfl⟩
abbrev main_call0_v106 : Ref sig .tc := ⟨.hbm, 155, rfl⟩
abbrev main_call0_v107 : Ref sig .tc := ⟨.hbm, 156, rfl⟩
abbrev main_call0_v108 : Ref sig .tc := ⟨.hbm, 157, rfl⟩
abbrev main_call0_cst_41 : Ref sig .tc := ⟨.hbm, 158, rfl⟩
abbrev main_call0_v109 : Ref sig .tc := ⟨.hbm, 159, rfl⟩
abbrev main_call0_v110 : Ref sig .tc := ⟨.hbm, 160, rfl⟩
abbrev main_call0_c_42 : Ref sig .tc := ⟨.hbm, 161, rfl⟩
abbrev main_call0_v111 : Ref sig .tc := ⟨.hbm, 162, rfl⟩
abbrev main_call0_c_43 : Ref sig .tc := ⟨.hbm, 163, rfl⟩
abbrev main_call0_v112 : Ref sig .tc := ⟨.hbm, 164, rfl⟩
abbrev main_call0_v113 : Ref sig .tc := ⟨.hbm, 165, rfl⟩
abbrev main_call0_v114 : Ref sig .tc := ⟨.hbm, 166, rfl⟩
abbrev main_call0_v115 : Ref sig .tc := ⟨.hbm, 167, rfl⟩
abbrev main_call0_v116 : Ref sig .tc := ⟨.hbm, 168, rfl⟩
abbrev main_call0_cst_44 : Ref sig .tc := ⟨.hbm, 169, rfl⟩
abbrev main_call0_v117 : Ref sig .tc := ⟨.hbm, 170, rfl⟩
abbrev main_call0_v118 : Ref sig .tc := ⟨.hbm, 171, rfl⟩
abbrev main_call0_c_45 : Ref sig .tc := ⟨.hbm, 172, rfl⟩
abbrev main_call0_v119 : Ref sig .tc := ⟨.hbm, 173, rfl⟩
abbrev main_call0_c_46 : Ref sig .tc := ⟨.hbm, 174, rfl⟩
abbrev main_call0_v120 : Ref sig .tc := ⟨.hbm, 175, rfl⟩
abbrev main_call0_v121 : Ref sig .tc := ⟨.hbm, 176, rfl⟩
abbrev main_call0_v122 : Ref sig .tc := ⟨.hbm, 177, rfl⟩
abbrev main_call0_v123 : Ref sig .tc := ⟨.hbm, 178, rfl⟩
abbrev main_call0_v124 : Ref sig .tc := ⟨.hbm, 179, rfl⟩
abbrev main_call0_cst_47 : Ref sig .tc := ⟨.hbm, 180, rfl⟩
abbrev main_call0_v125 : Ref sig .tc := ⟨.hbm, 181, rfl⟩
abbrev main_call0_v126 : Ref sig .tc := ⟨.hbm, 182, rfl⟩
abbrev main_call0_c_48 : Ref sig .tc := ⟨.hbm, 183, rfl⟩
abbrev main_call0_v127 : Ref sig .tc := ⟨.hbm, 184, rfl⟩
abbrev main_call0_c_49 : Ref sig .tc := ⟨.hbm, 185, rfl⟩
abbrev main_call0_v128 : Ref sig .tc := ⟨.hbm, 186, rfl⟩
abbrev main_call0_v129 : Ref sig .tc := ⟨.hbm, 187, rfl⟩
abbrev main_call0_v130 : Ref sig .tc := ⟨.hbm, 188, rfl⟩
abbrev main_call0_v131 : Ref sig .tc := ⟨.hbm, 189, rfl⟩
abbrev main_call0_v132 : Ref sig .tc := ⟨.hbm, 190, rfl⟩
abbrev main_call0_cst_50 : Ref sig .tc := ⟨.hbm, 191, rfl⟩
abbrev main_call0_v133 : Ref sig .tc := ⟨.hbm, 192, rfl⟩
abbrev main_call0_v134 : Ref sig .tc := ⟨.hbm, 193, rfl⟩
abbrev main_call0_c_51 : Ref sig .tc := ⟨.hbm, 194, rfl⟩
abbrev main_call0_v135 : Ref sig .tc := ⟨.hbm, 195, rfl⟩
abbrev main_call0_c_52 : Ref sig .tc := ⟨.hbm, 196, rfl⟩
abbrev main_call0_v136 : Ref sig .tc := ⟨.hbm, 197, rfl⟩
abbrev main_call0_v137 : Ref sig .tc := ⟨.hbm, 198, rfl⟩
abbrev main_call0_v138 : Ref sig .tc := ⟨.hbm, 199, rfl⟩
abbrev main_call0_v139 : Ref sig .tc := ⟨.hbm, 200, rfl⟩
abbrev main_call0_v140 : Ref sig .tc := ⟨.hbm, 201, rfl⟩
abbrev main_call0_cst_53 : Ref sig .tc := ⟨.hbm, 202, rfl⟩
abbrev main_call0_v141 : Ref sig .tc := ⟨.hbm, 203, rfl⟩
abbrev main_call0_v142 : Ref sig .tc := ⟨.hbm, 204, rfl⟩
abbrev main_call0_c_54 : Ref sig .tc := ⟨.hbm, 205, rfl⟩
abbrev main_call0_v143 : Ref sig .tc := ⟨.hbm, 206, rfl⟩
abbrev main_call0_c_55 : Ref sig .tc := ⟨.hbm, 207, rfl⟩
abbrev main_call0_v144 : Ref sig .tc := ⟨.hbm, 208, rfl⟩
abbrev main_call0_v145 : Ref sig .tc := ⟨.hbm, 209, rfl⟩
abbrev main_call0_v146 : Ref sig .tc := ⟨.hbm, 210, rfl⟩
abbrev main_call0_v147 : Ref sig .tc := ⟨.hbm, 211, rfl⟩
abbrev main_call0_v148 : Ref sig .tc := ⟨.hbm, 212, rfl⟩
abbrev main_call0_cst_56 : Ref sig .tc := ⟨.hbm, 213, rfl⟩
abbrev main_call0_v149 : Ref sig .tc := ⟨.hbm, 214, rfl⟩
abbrev main_call0_v150 : Ref sig .tc := ⟨.hbm, 215, rfl⟩
abbrev main_call0_c_57 : Ref sig .tc := ⟨.hbm, 216, rfl⟩
abbrev main_call0_v151 : Ref sig .tc := ⟨.hbm, 217, rfl⟩
abbrev main_call0_c_58 : Ref sig .tc := ⟨.hbm, 218, rfl⟩
abbrev main_call0_v152 : Ref sig .tc := ⟨.hbm, 219, rfl⟩
abbrev main_call0_v153 : Ref sig .tc := ⟨.hbm, 220, rfl⟩
abbrev main_call0_v154 : Ref sig .tc := ⟨.hbm, 221, rfl⟩
abbrev main_call0_v155 : Ref sig .tc := ⟨.hbm, 222, rfl⟩
abbrev main_call0_v156 : Ref sig .tc := ⟨.hbm, 223, rfl⟩
abbrev main_call0_cst_59 : Ref sig .tc := ⟨.hbm, 224, rfl⟩
abbrev main_call0_v157 : Ref sig .tc := ⟨.hbm, 225, rfl⟩
abbrev main_call0_v158 : Ref sig .tc := ⟨.hbm, 226, rfl⟩
abbrev main_call0_c_60 : Ref sig .tc := ⟨.hbm, 227, rfl⟩
abbrev main_call0_v159 : Ref sig .tc := ⟨.hbm, 228, rfl⟩
abbrev main_call0_c_61 : Ref sig .tc := ⟨.hbm, 229, rfl⟩
abbrev main_call0_v160 : Ref sig .tc := ⟨.hbm, 230, rfl⟩
abbrev main_call0_v161 : Ref sig .tc := ⟨.hbm, 231, rfl⟩
abbrev main_call0_v162 : Ref sig .tc := ⟨.hbm, 232, rfl⟩
abbrev main_call0_v163 : Ref sig .tc := ⟨.hbm, 233, rfl⟩
abbrev main_call0_v164 : Ref sig .tc := ⟨.hbm, 234, rfl⟩
abbrev main_call0_cst_62 : Ref sig .tc := ⟨.hbm, 235, rfl⟩
abbrev main_call0_v165 : Ref sig .tc := ⟨.hbm, 236, rfl⟩
abbrev main_call0_v166 : Ref sig .tc := ⟨.hbm, 237, rfl⟩
abbrev main_call0_c_63 : Ref sig .tc := ⟨.hbm, 238, rfl⟩
abbrev main_call0_v167 : Ref sig .tc := ⟨.hbm, 239, rfl⟩
abbrev main_call0_c_64 : Ref sig .tc := ⟨.hbm, 240, rfl⟩
abbrev main_call0_v168 : Ref sig .tc := ⟨.hbm, 241, rfl⟩
abbrev main_call0_v169 : Ref sig .tc := ⟨.hbm, 242, rfl⟩
abbrev main_call0_v170 : Ref sig .tc := ⟨.hbm, 243, rfl⟩
abbrev main_call0_v171 : Ref sig .tc := ⟨.hbm, 244, rfl⟩
abbrev main_call0_v172 : Ref sig .tc := ⟨.hbm, 245, rfl⟩
abbrev main_call0_cst_65 : Ref sig .tc := ⟨.hbm, 246, rfl⟩
abbrev main_call0_v173 : Ref sig .tc := ⟨.hbm, 247, rfl⟩
abbrev main_call0_v174 : Ref sig .tc := ⟨.hbm, 248, rfl⟩
abbrev main_call0_c_66 : Ref sig .tc := ⟨.hbm, 249, rfl⟩
abbrev main_call0_v175 : Ref sig .tc := ⟨.hbm, 250, rfl⟩
abbrev main_call0_c_67 : Ref sig .tc := ⟨.hbm, 251, rfl⟩
abbrev main_call0_v176 : Ref sig .tc := ⟨.hbm, 252, rfl⟩
abbrev main_call0_v177 : Ref sig .tc := ⟨.hbm, 253, rfl⟩
abbrev main_call0_v178 : Ref sig .tc := ⟨.hbm, 254, rfl⟩
abbrev main_call0_v179 : Ref sig .tc := ⟨.hbm, 255, rfl⟩
abbrev main_call0_v180 : Ref sig .tc := ⟨.hbm, 256, rfl⟩
abbrev main_call0_cst_68 : Ref sig .tc := ⟨.hbm, 257, rfl⟩
abbrev main_call0_v181 : Ref sig .tc := ⟨.hbm, 258, rfl⟩
abbrev main_call0_v182 : Ref sig .tc := ⟨.hbm, 259, rfl⟩
abbrev main_call0_c_69 : Ref sig .tc := ⟨.hbm, 260, rfl⟩
abbrev main_call0_v183 : Ref sig .tc := ⟨.hbm, 261, rfl⟩
abbrev main_call0_c_70 : Ref sig .tc := ⟨.hbm, 262, rfl⟩
abbrev main_call0_v184 : Ref sig .tc := ⟨.hbm, 263, rfl⟩
abbrev main_call0_v185 : Ref sig .tc := ⟨.hbm, 264, rfl⟩
abbrev main_call0_v186 : Ref sig .tc := ⟨.hbm, 265, rfl⟩
abbrev main_call0_v187 : Ref sig .tc := ⟨.hbm, 266, rfl⟩
abbrev main_call0_v188 : Ref sig .tc := ⟨.hbm, 267, rfl⟩
abbrev main_call0_cst_71 : Ref sig .tc := ⟨.hbm, 268, rfl⟩
abbrev main_call0_v189 : Ref sig .tc := ⟨.hbm, 269, rfl⟩
abbrev main_call0_v190 : Ref sig .tc := ⟨.hbm, 270, rfl⟩
abbrev main_call0_c_72 : Ref sig .tc := ⟨.hbm, 271, rfl⟩
abbrev main_call0_v191 : Ref sig .tc := ⟨.hbm, 272, rfl⟩
abbrev main_call0_c_73 : Ref sig .tc := ⟨.hbm, 273, rfl⟩
abbrev main_call0_v192 : Ref sig .tc := ⟨.hbm, 274, rfl⟩
abbrev main_call0_v193 : Ref sig .tc := ⟨.hbm, 275, rfl⟩
abbrev main_call0_v194 : Ref sig .tc := ⟨.hbm, 276, rfl⟩
abbrev main_call0_v195 : Ref sig .tc := ⟨.hbm, 277, rfl⟩
abbrev main_call0_v196 : Ref sig .tc := ⟨.hbm, 278, rfl⟩
abbrev main_call0_cst_74 : Ref sig .tc := ⟨.hbm, 279, rfl⟩
abbrev main_call0_v197 : Ref sig .tc := ⟨.hbm, 280, rfl⟩
abbrev main_call0_v198 : Ref sig .tc := ⟨.hbm, 281, rfl⟩
abbrev main_call0_v199 : Ref sig .tc := ⟨.hbm, 282, rfl⟩
abbrev main_call0_v200 : Ref sig .tc := ⟨.hbm, 283, rfl⟩
abbrev main_v0 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x50x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x6400x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelSinIdeal.lean ====
variable {F : FTy → Type} [FloatOps F] [Named F]
def κ : String → Option EReal := fun
  | "inv_r_cut" => some ((1 / 5 : ℝ) : EReal)
  | _ => none
-- ==== ReferenceSinIdeal.lean ====
abbrev S160000 : Shape := ⟨1, ![160000]⟩
abbrev S4x4x10x32 : Shape := ⟨4, ![4, 4, 10, 32]⟩
abbrev S4x4x32x32 : Shape := ⟨4, ![4, 4, 32, 32]⟩
abbrev S4x4x32x10 : Shape := ⟨4, ![4, 4, 32, 10]⟩
abbrev S4x10 : Shape := ⟨2, ![4, 10]⟩
abbrev S_ : Shape := ⟨0, ![]⟩
abbrev S4x1x10 : Shape := ⟨3, ![4, 1, 10]⟩
abbrev S1x160000x1 : Shape := ⟨3, ![1, 160000, 1]⟩
abbrev S4x160000x10 : Shape := ⟨3, ![4, 160000, 10]⟩
abbrev S1x160000 : Shape := ⟨2, ![1, 160000]⟩
abbrev S4x160000 : Shape := ⟨2, ![4, 160000]⟩
abbrev S4x160000x1 : Shape := ⟨3, ![4, 160000, 1]⟩
abbrev S4x1x10x32 : Shape := ⟨4, ![4, 1, 10, 32]⟩
abbrev S4x10x32 : Shape := ⟨3, ![4, 10, 32]⟩
abbrev S4x160000x32 : Shape := ⟨3, ![4, 160000, 32]⟩
abbrev S4x1x32x32 : Shape := ⟨4, ![4, 1, 32, 32]⟩
abbrev S4x32x32 : Shape := ⟨3, ![4, 32, 32]⟩
abbrev S4x1x32x10 : Shape := ⟨4, ![4, 1, 32, 10]⟩
abbrev S4x32x10 : Shape := ⟨3, ![4, 32, 10]⟩

abbrev nBuf : Space → Nat
  | .hbm => 215
  | .vmem => 0
  | .smem => 0
  | _ => 0

abbrev hbmTy0_0 (i : Nat) : BufTy := match i % 128 with
  | 0 => ⟨S160000, .f32⟩
  | 1 => ⟨S160000, .i32⟩
  | 2 => ⟨S4x4x10x32, .f32⟩
  | 3 => ⟨S4x4x32x32, .f32⟩
  | 4 => ⟨S4x4x32x32, .f32⟩
  | 5 => ⟨S4x4x32x10, .f32⟩
  | 6 => ⟨S4x10, .f32⟩
  | 7 => ⟨S_, .f32⟩
  | 8 => ⟨S160000, .f32⟩
  | 9 => ⟨S160000, .f32⟩
  | 10 => ⟨S4x1x10, .f32⟩
  | 11 => ⟨S1x160000x1, .f32⟩
  | 12 => ⟨S4x160000x10, .f32⟩
  | 13 => ⟨S4x160000x10, .f32⟩
  | 14 => ⟨S4x160000x10, .f32⟩
  | 15 => ⟨S_, .f32⟩
  | 16 => ⟨S160000, .f32⟩
  | 17 => ⟨S160000, .f32⟩
  | 18 => ⟨S160000, .f32⟩
  | 19 => ⟨S160000, .f32⟩
  | 20 => ⟨S1x160000, .f32⟩
  | 21 => ⟨S1x160000, .f32⟩
  | 22 => ⟨S1x160000, .f32⟩
  | 23 => ⟨S1x160000, .f32⟩
  | 24 => ⟨S4x160000, .f32⟩
  | 25 => ⟨S4x160000x10, .f32⟩
  | 26 => ⟨S_, .f32⟩
  | 27 => ⟨S4x160000x10, .f32⟩
  | 28 => ⟨S4x160000x10, .f32⟩
  | 29 => ⟨S4x160000x10, .f32⟩
  | 30 => ⟨S4x160000x1, .f32⟩
  | 31 => ⟨S4x160000x10, .f32⟩
  | 32 => ⟨S4x160000x10, .f32⟩
  | 33 => ⟨S_, .f32⟩
  | 34 => ⟨S4x160000x10, .f32⟩
  | 35 => ⟨S4x1x10x32, .f32⟩
  | 36 => ⟨S4x10x32, .f32⟩
  | 37 => ⟨S4x160000x32, .f32⟩
  | 38 => ⟨S4x160000x32, .f32⟩
  | 39 => ⟨S4x160000x32, .f32⟩
  | 40 => ⟨S_, .f32⟩
  | 41 => ⟨S4x160000x32, .f32⟩
  | 42 => ⟨S4x160000x32, .f32⟩
  | 43 => ⟨S_, .f32⟩
  | 44 => ⟨S4x160000x32, .f32⟩
  | 45 => ⟨S4x160000x32, .f32⟩
  | 46 => ⟨S4x160000x32, .f32⟩
  | 47 => ⟨S4x1x32x32, .f32⟩
  | 48 => ⟨S4x32x32, .f32⟩
  | 49 => ⟨S4x160000x32, .f32⟩
  | 50 => ⟨S4x160000x32, .f32⟩
  | 51 => ⟨S4x160000x32, .f32⟩
  | 52 => ⟨S_, .f32⟩
  | 53 => ⟨S4x160000x32, .f32⟩
  | 54 => ⟨S4x160000x32, .f32⟩
  | 55 => ⟨S_, .f32⟩
  | 56 => ⟨S4x160000x32, .f32⟩
  | 57 => ⟨S4x160000x32, .f32⟩
  | 58 => ⟨S4x160000x32, .f32⟩
  | 59 => ⟨S4x1x32x32, .f32⟩
  | 60 => ⟨S4x32x32, .f32⟩
  | 61 => ⟨S4x160000x32, .f32⟩
  | 62 => ⟨S4x160000x32, .f32⟩
  | 63 => ⟨S4x160000x32, .f32⟩
  | 64 => ⟨S_, .f32⟩
  | 65 => ⟨S4x160000x32, .f32⟩
  | 66 => ⟨S4x160000x32, .f32⟩
  | 67 => ⟨S_, .f32⟩
  | 68 => ⟨S4x160000x32, .f32⟩
  | 69 => ⟨S4x160000x32, .f32⟩
  | 70 => ⟨S4x160000x32, .f32⟩
  | 71 => ⟨S4x1x32x10, .f32⟩
  | 72 => ⟨S4x32x10, .f32⟩
  | 73 => ⟨S4x160000x10, .f32⟩
  | 74 => ⟨S_, .i32⟩
  | 75 => ⟨S160000, .i32⟩
  | 76 => ⟨S160000, .i1⟩
  | 77 => ⟨S1x160000x1, .i1⟩
  | 78 => ⟨S4x160000x10, .i1⟩
  | 79 => ⟨S4x160000x10, .f32⟩
  | 80 => ⟨S4x1x10x32, .f32⟩
  | 81 => ⟨S4x10x32, .f32⟩
  | 82 => ⟨S4x160000x32, .f32⟩
  | 83 => ⟨S4x160000x32, .f32⟩
  | 84 => ⟨S4x160000x32, .f32⟩
  | 85 => ⟨S_, .f32⟩
  | 86 => ⟨S4x160000x32, .f32⟩
  | 87 => ⟨S4x160000x32, .f32⟩
  | 88 => ⟨S_, .f32⟩
  | 89 => ⟨S4x160000x32, .f32⟩
  | 90 => ⟨S4x160000x32, .f32⟩
  | 91 => ⟨S4x160000x32, .f32⟩
  | 92 => ⟨S4x1x32x32, .f32⟩
  | 93 => ⟨S4x32x32, .f32⟩
  | 94 => ⟨S4x160000x32, .f32⟩
  | 95 => ⟨S4x160000x32, .f32⟩
  | 96 => ⟨S4x160000x32, .f32⟩
  | 97 => ⟨S_, .f32⟩
  | 98 => ⟨S4x160000x32, .f32⟩
  | 99 => ⟨S4x160000x32, .f32⟩
  | 100 => ⟨S_, .f32⟩
  | 101 => ⟨S4x160000x32, .f32⟩
  | 102 => ⟨S4x160000x32, .f32⟩
  | 103 => ⟨S4x160000x32, .f32⟩
  | 104 => ⟨S4x1x32x32, .f32⟩
  | 105 => ⟨S4x32x32, .f32⟩
  | 106 => ⟨S4x160000x32, .f32⟩
  | 107 => ⟨S4x160000x32, .f32⟩
  | 108 => ⟨S4x160000x32, .f32⟩
  | 109 => ⟨S_, .f32⟩
  | 110 => ⟨S4x160000x32, .f32⟩
  | 111 => ⟨S4x160000x32, .f32⟩
  | 112 => ⟨S_, .f32⟩
  | 113 => ⟨S4x160000x32, .f32⟩
  | 114 => ⟨S4x160000x32, .f32⟩
  | 115 => ⟨S4x160000x32, .f32⟩
  | 116 => ⟨S4x1x32x10, .f32⟩
  | 117 => ⟨S4x32x10, .f32⟩
  | 118 => ⟨S4x160000x10, .f32⟩
  | 119 => ⟨S_, .i32⟩
  | 120 => ⟨S160000, .i32⟩
  | 121 => ⟨S160000, .i1⟩
  | 122 => ⟨S1x160000x1, .i1⟩
  | 123 => ⟨S4x160000x10, .i1⟩
  | 124 => ⟨S4x160000x10, .f32⟩
  | 125 => ⟨S4x1x10x32, .f32⟩
  | 126 => ⟨S4x10x32, .f32⟩
  | 127 => ⟨S4x160000x32, .f32⟩
  | _ => ⟨S160000, .f32⟩

abbrev hbmTy0_1 (i : Nat) : BufTy := match i % 128 with
  | 0 => ⟨S4x160000x32, .f32⟩
  | 1 => ⟨S4x160000x32, .f32⟩
  | 2 => ⟨S_, .f32⟩
  | 3 => ⟨S4x160000x32, .f32⟩
  | 4 => ⟨S4x160000x32, .f32⟩
  | 5 => ⟨S_, .f32⟩
  | 6 => ⟨S4x160000x32, .f32⟩
  | 7 => ⟨S4x160000x32, .f32⟩
  | 8 => ⟨S4x160000x32, .f32⟩
  | 9 => ⟨S4x1x32x32, .f32⟩
  | 10 => ⟨S4x32x32, .f32⟩
  | 11 => ⟨S4x160000x32, .f32⟩
  | 12 => ⟨S4x160000x32, .f32⟩
  | 13 => ⟨S4x160000x32, .f32⟩
  | 14 => ⟨S_, .f32⟩
  | 15 => ⟨S4x160000x32, .f32⟩
  | 16 => ⟨S4x160000x32, .f32⟩
  | 17 => ⟨S_, .f32⟩
  | 18 => ⟨S4x160000x32, .f32⟩
  | 19 => ⟨S4x160000x32, .f32⟩
  | 20 => ⟨S4x160000x32, .f32⟩
  | 21 => ⟨S4x1x32x32, .f32⟩
  | 22 => ⟨S4x32x32, .f32⟩
  | 23 => ⟨S4x160000x32, .f32⟩
  | 24 => ⟨S4x160000x32, .f32⟩
  | 25 => ⟨S4x160000x32, .f32⟩
  | 26 => ⟨S_, .f32⟩
  | 27 => ⟨S4x160000x32, .f32⟩
  | 28 => ⟨S4x160000x32, .f32⟩
  | 29 => ⟨S_, .f32⟩
  | 30 => ⟨S4x160000x32, .f32⟩
  | 31 => ⟨S4x160000x32, .f32⟩
  | 32 => ⟨S4x160000x32, .f32⟩
  | 33 => ⟨S4x1x32x10, .f32⟩
  | 34 => ⟨S4x32x10, .f32⟩
  | 35 => ⟨S4x160000x10, .f32⟩
  | 36 => ⟨S_, .i32⟩
  | 37 => ⟨S160000, .i32⟩
  | 38 => ⟨S160000, .i1⟩
  | 39 => ⟨S1x160000x1, .i1⟩
  | 40 => ⟨S4x160000x10, .i1⟩
  | 41 => ⟨S4x160000x10, .f32⟩
  | 42 => ⟨S4x1x10x32, .f32⟩
  | 43 => ⟨S4x10x32, .f32⟩
  | 44 => ⟨S4x160000x32, .f32⟩
  | 45 => ⟨S4x160000x32, .f32⟩
  | 46 => ⟨S4x160000x32, .f32⟩
  | 47 => ⟨S_, .f32⟩
  | 48 => ⟨S4x160000x32, .f32⟩
  | 49 => ⟨S4x160000x32, .f32⟩
  | 50 => ⟨S_, .f32⟩
  | 51 => ⟨S4x160000x32, .f32⟩
  | 52 => ⟨S4x160000x32, .f32⟩
  | 53 => ⟨S4x160000x32, .f32⟩
  | 54 => ⟨S4x1x32x32, .f32⟩
  | 55 => ⟨S4x32x32, .f32⟩
  | 56 => ⟨S4x160000x32, .f32⟩
  | 57 => ⟨S4x160000x32, .f32⟩
  | 58 => ⟨S4x160000x32, .f32⟩
  | 59 => ⟨S_, .f32⟩
  | 60 => ⟨S4x160000x32, .f32⟩
  | 61 => ⟨S4x160000x32, .f32⟩
  | 62 => ⟨S_, .f32⟩
  | 63 => ⟨S4x160000x32, .f32⟩
  | 64 => ⟨S4x160000x32, .f32⟩
  | 65 => ⟨S4x160000x32, .f32⟩
  | 66 => ⟨S4x1x32x32, .f32⟩
  | 67 => ⟨S4x32x32, .f32⟩
  | 68 => ⟨S4x160000x32, .f32⟩
  | 69 => ⟨S4x160000x32, .f32⟩
  | 70 => ⟨S4x160000x32, .f32⟩
  | 71 => ⟨S_, .f32⟩
  | 72 => ⟨S4x160000x32, .f32⟩
  | 73 => ⟨S4x160000x32, .f32⟩
  | 74 => ⟨S_, .f32⟩
  | 75 => ⟨S4x160000x32, .f32⟩
  | 76 => ⟨S4x160000x32, .f32⟩
  | 77 => ⟨S4x160000x32, .f32⟩
  | 78 => ⟨S4x1x32x10, .f32⟩
  | 79 => ⟨S4x32x10, .f32⟩
  | 80 => ⟨S4x160000x10, .f32⟩
  | 81 => ⟨S_, .i32⟩
  | 82 => ⟨S160000, .i32⟩
  | 83 => ⟨S160000, .i1⟩
  | 84 => ⟨S1x160000x1, .i1⟩
  | 85 => ⟨S4x160000x10, .i1⟩
  | 86 => ⟨S4x160000x10, .f32⟩
  | _ => ⟨S160000, .f32⟩

abbrev hbmTy (i : Nat) : BufTy := match i / 128 with
  | 0 => hbmTy0_0 i
  | 1 => hbmTy0_1 i
  | _ => ⟨S160000, .f32⟩

abbrev bufTy : (tb : Table) → Fin (tcTables nBuf tb) → BufTy
  | .hbm, ⟨i, _⟩ => hbmTy i
  | _, _ => ⟨S160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call3_v0 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call4_v0 : Ref sig .tc := ⟨.hbm, 83, rfl⟩
abbrev main_call4_v1 : Ref sig .tc := ⟨.hbm, 84, rfl⟩
abbrev main_call4_cst : Ref sig .tc := ⟨.hbm, 85, rfl⟩
abbrev main_call4_v2 : Ref sig .tc := ⟨.hbm, 86, rfl⟩
abbrev main_call4_v3 : Ref sig .tc := ⟨.hbm, 87, rfl⟩
abbrev main_call4_cst_0 : Ref sig .tc := ⟨.hbm, 88, rfl⟩
abbrev main_call4_v4 : Ref sig .tc := ⟨.hbm, 89, rfl⟩
abbrev main_call4_v5 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_call5_v0 : Ref sig .tc := ⟨.hbm, 95, rfl⟩
abbrev main_call5_v1 : Ref sig .tc := ⟨.hbm, 96, rfl⟩
abbrev main_call5_cst : Ref sig .tc := ⟨.hbm, 97, rfl⟩
abbrev main_call5_v2 : Ref sig .tc := ⟨.hbm, 98, rfl⟩
abbrev main_call5_v3 : Ref sig .tc := ⟨.hbm, 99, rfl⟩
abbrev main_call5_cst_0 : Ref sig .tc := ⟨.hbm, 100, rfl⟩
abbrev main_call5_v4 : Ref sig .tc := ⟨.hbm, 101, rfl⟩
abbrev main_call5_v5 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_call6_v0 : Ref sig .tc := ⟨.hbm, 107, rfl⟩
abbrev main_call6_v1 : Ref sig .tc := ⟨.hbm, 108, rfl⟩
abbrev main_call6_cst : Ref sig .tc := ⟨.hbm, 109, rfl⟩
abbrev main_call6_v2 : Ref sig .tc := ⟨.hbm, 110, rfl⟩
abbrev main_call6_v3 : Ref sig .tc := ⟨.hbm, 111, rfl⟩
abbrev main_call6_cst_0 : Ref sig .tc := ⟨.hbm, 112, rfl⟩
abbrev main_call6_v4 : Ref sig .tc := ⟨.hbm, 113, rfl⟩
abbrev main_call6_v5 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_c_4 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_call7_v0 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_call8_v0 : Ref sig .tc := ⟨.hbm, 128, rfl⟩
abbrev main_call8_v1 : Ref sig .tc := ⟨.hbm, 129, rfl⟩
abbrev main_call8_cst : Ref sig .tc := ⟨.hbm, 130, rfl⟩
abbrev main_call8_v2 : Ref sig .tc := ⟨.hbm, 131, rfl⟩
abbrev main_call8_v3 : Ref sig .tc := ⟨.hbm, 132, rfl⟩
abbrev main_call8_cst_0 : Ref sig .tc := ⟨.hbm, 133, rfl⟩
abbrev main_call8_v4 : Ref sig .tc := ⟨.hbm, 134, rfl⟩
abbrev main_call8_v5 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_call9_v0 : Ref sig .tc := ⟨.hbm, 140, rfl⟩
abbrev main_call9_v1 : Ref sig .tc := ⟨.hbm, 141, rfl⟩
abbrev main_call9_cst : Ref sig .tc := ⟨.hbm, 142, rfl⟩
abbrev main_call9_v2 : Ref sig .tc := ⟨.hbm, 143, rfl⟩
abbrev main_call9_v3 : Ref sig .tc := ⟨.hbm, 144, rfl⟩
abbrev main_call9_cst_0 : Ref sig .tc := ⟨.hbm, 145, rfl⟩
abbrev main_call9_v4 : Ref sig .tc := ⟨.hbm, 146, rfl⟩
abbrev main_call9_v5 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_call10_v0 : Ref sig .tc := ⟨.hbm, 152, rfl⟩
abbrev main_call10_v1 : Ref sig .tc := ⟨.hbm, 153, rfl⟩
abbrev main_call10_cst : Ref sig .tc := ⟨.hbm, 154, rfl⟩
abbrev main_call10_v2 : Ref sig .tc := ⟨.hbm, 155, rfl⟩
abbrev main_call10_v3 : Ref sig .tc := ⟨.hbm, 156, rfl⟩
abbrev main_call10_cst_0 : Ref sig .tc := ⟨.hbm, 157, rfl⟩
abbrev main_call10_v4 : Ref sig .tc := ⟨.hbm, 158, rfl⟩
abbrev main_call10_v5 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_c_5 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_call11_v0 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_call12_v0 : Ref sig .tc := ⟨.hbm, 173, rfl⟩
abbrev main_call12_v1 : Ref sig .tc := ⟨.hbm, 174, rfl⟩
abbrev main_call12_cst : Ref sig .tc := ⟨.hbm, 175, rfl⟩
abbrev main_call12_v2 : Ref sig .tc := ⟨.hbm, 176, rfl⟩
abbrev main_call12_v3 : Ref sig .tc := ⟨.hbm, 177, rfl⟩
abbrev main_call12_cst_0 : Ref sig .tc := ⟨.hbm, 178, rfl⟩
abbrev main_call12_v4 : Ref sig .tc := ⟨.hbm, 179, rfl⟩
abbrev main_call12_v5 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_call13_v0 : Ref sig .tc := ⟨.hbm, 185, rfl⟩
abbrev main_call13_v1 : Ref sig .tc := ⟨.hbm, 186, rfl⟩
abbrev main_call13_cst : Ref sig .tc := ⟨.hbm, 187, rfl⟩
abbrev main_call13_v2 : Ref sig .tc := ⟨.hbm, 188, rfl⟩
abbrev main_call13_v3 : Ref sig .tc := ⟨.hbm, 189, rfl⟩
abbrev main_call13_cst_0 : Ref sig .tc := ⟨.hbm, 190, rfl⟩
abbrev main_call13_v4 : Ref sig .tc := ⟨.hbm, 191, rfl⟩
abbrev main_call13_v5 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_call14_v0 : Ref sig .tc := ⟨.hbm, 197, rfl⟩
abbrev main_call14_v1 : Ref sig .tc := ⟨.hbm, 198, rfl⟩
abbrev main_call14_cst : Ref sig .tc := ⟨.hbm, 199, rfl⟩
abbrev main_call14_v2 : Ref sig .tc := ⟨.hbm, 200, rfl⟩
abbrev main_call14_v3 : Ref sig .tc := ⟨.hbm, 201, rfl⟩
abbrev main_call14_cst_0 : Ref sig .tc := ⟨.hbm, 202, rfl⟩
abbrev main_call14_v4 : Ref sig .tc := ⟨.hbm, 203, rfl⟩
abbrev main_call14_v5 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_c_6 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_call15_v0 : Ref sig .tc := ⟨.hbm, 213, rfl⟩
abbrev main_v99 : Ref sig .tc := ⟨.hbm, 214, rfl⟩

abbrev nD : Nat := 1
abbrev τ : Topo := Topo.v7x

variable {F : FTy → Type} [FloatOps F]
-- ==== QuarterSineIdeal.lean ====
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_cst_11 : Ref sig .tc := ⟨.hbm, 49, rfl⟩
abbrev main_v36 : Ref sig .tc := ⟨.hbm, 50, rfl⟩
abbrev main_cst_12 : Ref sig .tc := ⟨.hbm, 51, rfl⟩
abbrev main_v37 : Ref sig .tc := ⟨.hbm, 52, rfl⟩
abbrev main_cst_13 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.Stages.lean ====
/-
  The network one part of a block goes through, as functions of a part's size, and their values at one row.

  A block of 6400 atoms is worked through in four parts of 12 or 13 chunks of 128 atoms. What a part computes does not
  depend on which part it is, so it is written here once: from the packed inputs of `n` chunks, the radius and the
  species of each of the `M = 128 n` rows; from those the 40 basis values of a row, its 512 first-layer candidates, and
  for each `l` the masked candidates followed by two hidden layers and the output layer.
-/
module

public import proofs.«01_k».proof.Proof.Gen.KernelIdeal.Skeleton
public import Idealize.ShloMosaic.Lib.Pointwise
public import Idealize.ShloMosaic.Lib.ShapeFacts
public import Idealize.ShloMosaic.Lib.Pointwise.IndexVar
public import Idealize.ShloMosaic.Lib.Pipeline.Value

@[expose] public section

set_option maxRecDepth 16384

noncomputable section

namespace Cert.KernelIdeal.Net

open Cert.KernelIdeal Cert.KernelIdeal.Gen Idealize.ShloMosaic Idealize.SL.Sem

variable {F : FTy → Type} [FloatOps F] [Named F]

/-- A matrix of `m` rows and `n` columns. -/
abbrev Mat (F : FTy → Type) (m n : ℕ) : Type := FVec F ⟨2, ![m, n]⟩ .f32

theorem row_fits (M N : ℕ) : (⟨2, ![1, N]⟩ : Shape).Broadcasts ⟨2, ![M, N]⟩ :=
  ⟨le_rfl, fun a => by fin_cases a; exacts [.inl rfl, .inr fun _ => rfl]⟩

theorem col_fits (M N : ℕ) : (⟨2, ![M, 1]⟩ : Shape).Broadcasts ⟨2, ![M, N]⟩ :=
  ⟨le_rfl, fun a => by fin_cases a; exacts [.inr fun _ => rfl, .inl rfl]⟩

/-- One row repeated down `M` rows. -/
def down {α : Type} (M N : ℕ) (v : (⟨2, ![1, N]⟩ : Shape).Idx → α) : (⟨2, ![M, N]⟩ : Shape).Idx → α :=
  broadcastTo _ v (row_fits M N)

/-- One column repeated across `N` columns. -/
def across {α : Type} (M N : ℕ) (v : (⟨2, ![M, 1]⟩ : Shape).Idx → α) : (⟨2, ![M, N]⟩ : Shape).Idx → α :=
  broadcastTo _ v (col_fits M N)

/-- A vector in the shape it has. -/
def keep {α : Type} {s : Shape} (v : s.Idx → α) : s.Idx → α := shapeCast s v rfl

/-- A product of matrices. -/
def prod {M K N : ℕ} (a : Mat F M K) (w : Mat F K N) : Mat F M N :=
  matmul (DotDims.plain M K N) none a w (constant ⟨2, ![M, N]⟩ .f32 0x00000000#32)

/-- `u + u · tanh u`. -/
def gate {M N : ℕ} (u : Mat F M N) : Mat F M N := addf u (mulf u (tanh u))

/-- One number all over a matrix. -/
def lit {M N : ℕ} (w : BitVec 32) : Mat F M N := broadcast ⟨2, ![M, N]⟩ (Scalar.ofBits .f32 w)

/-- `c` in an odd quarter, `s` in an even one, negated in the second half turn. -/
def byQuarter {M N : ℕ} (q c s : Mat F M N) : Mat F M N :=
  let v := select (ori (cmpf .oeq q (lit 0x3F800000#32)) (cmpf .oeq q (lit 0x40400000#32))) c s
  select (cmpf .oge q (lit 0x40000000#32)) (subf (lit 0x00000000#32) v) v

/-- The kernel's own sine: the phase less its nearest quarter turn, in one of two polynomials, with the sign of the half turn. -/
def turned {M N : ℕ} (x : Mat F M N) : Mat F M N :=
  let n := floor (addf (mulf x (lit 0x3F22F983#32)) (lit 0x3F000000#32))
  let y := subf x (mulf n (lit 0x3FC90FDB#32))
  let q := subf n (mulf (lit 0x40800000#32) (floor (mulf n (lit 0x3E800000#32))))
  let y2 := mulf y y
  let s := mulf y (addf (lit 0x3F800000#32) (mulf y2 (addf (lit 0xBE2AAAAB#32)
    (mulf y2 (addf (lit 0x3C088886#32) (mulf y2 (lit 0xB9500C03#32)))))))
  let c := addf (lit 0x3F800000#32) (mulf y2 (addf (lit 0xBF000000#32)
    (mulf y2 (addf (lit 0x3D2AAAA4#32) (mulf y2 (lit 0xBAB6061A#32))))))
  byQuarter q c s

/-- The 40 basis values of every row: the sine `sn` of the phase over the phase, times the power of the scaled radius. -/
def basis {M : ℕ} (sn : Mat F M 40 → Mat F M 40) (rad : Mat F M 1) (cz clid : Mat F 1 40) : Mat F M 40 :=
  let x := mulf (down M 40 cz) (across M 40 rad)
  let r2 := mulf rad rad
  mulf (divf (sn x) x)
    (select (down M 40 (keep (cmpf .oeq clid (broadcast ⟨2, ![1, 40]⟩ (Scalar.ofBits .f32 0x00000000#32)))))
      (broadcast ⟨2, ![M, 40]⟩ (Scalar.ofBits .f32 0x3F800000#32))
      (select (down M 40 (keep (cmpf .oeq clid (broadcast ⟨2, ![1, 40]⟩ (Scalar.ofBits .f32 0x3F800000#32)))))
        (across M 40 (keep rad))
        (select (down M 40 (keep (cmpf .oeq clid (broadcast ⟨2, ![1, 40]⟩ (Scalar.ofBits .f32 0x40000000#32)))))
          (across M 40 (keep r2)) (across M 40 (keep (mulf r2 rad))))))

/-- The 512 first-layer candidates of every row. -/
def cand {M : ℕ} (sn : Mat F M 40 → Mat F M 40) (rad : Mat F M 1) (cz clid : Mat F 1 40) (w1 : Mat F 40 512) : Mat F M 512 :=
  prod (basis sn rad cz clid) (keep w1)

theorem quarter_fits (M l : ℕ) (hl : l < 4) : (⟨2, ![M, 512]⟩ : Shape).Slices ![0, 128 * l] ⟨2, ![M, 128]⟩ :=
  ⟨rfl, fun a => by fin_cases a <;> simp [Fin.cast]; omega⟩

theorem unit_fits (M : ℕ) : (⟨2, ![M, 10]⟩ : Shape).ShapeCasts ⟨3, ![1, M, 10]⟩ := by
  simp [Shape.ShapeCasts, Shape.numel_rank2, Shape.numel_rank3]

/-- What one `l` makes of the candidates: the 128 of that `l`, those of other species put to zero, then the layers. -/
def branch {M : ℕ} (l : ℕ) (hl : l < 4) (spec : Mat F M 1) (chid : Mat F 1 128) (cd : Mat F M 512)
    (w2 w3 : FVec F S1x128x128 .f32) (w4 : FVec F S1x128x10 .f32) : FVec F ⟨3, ![1, M, 10]⟩ .f32 :=
  let u := select (cmpf .oeq (down M 128 chid) (across M 128 spec))
    (extractStridedSlice ⟨2, ![M, 128]⟩ ![0, 128 * l] cd (quarter_fits M l hl))
    (broadcast ⟨2, ![M, 128]⟩ (Scalar.ofBits .f32 0x00000000#32))
  let h := gate (prod (gate (prod (gate u) (shapeCast S128x128 w2 shapeCasts_S1x128x128_S128x128)))
    (shapeCast S128x128 w3 shapeCasts_S1x128x128_S128x128))
  shapeCast ⟨3, ![1, M, 10]⟩ (prod h (shapeCast S128x10 w4 shapeCasts_S1x128x10_S128x10))
    (unit_fits M)

/-! ## The rows of a part -/

/-- The packed values of chunks `c` to `c + n`, one chunk to a column. -/
def packed (c n : ℕ) (hs : S50x128.Slices ![c, 0] ⟨2, ![n, 128]⟩)
    (ht : (⟨2, ![n, 128]⟩ : Shape).Transposes [1, 0] ⟨2, ![128, n]⟩) (x : FVec F S1x50x128 .f32) : Mat F 128 n :=
  transpose _ [1, 0] (extractStridedSlice ⟨2, ![n, 128]⟩ ![c, 0] (shapeCast S50x128 x shapeCasts_S1x50x128_S50x128) hs) ht

/-- The species in a packed value: the floor of a sixteenth of it. -/
def speciesOf {n : ℕ} (v : Mat F 128 n) : Mat F 128 n :=
  floor (mulf v (broadcast ⟨2, ![128, n]⟩ (Scalar.ofBits .f32 0x3D800000#32)))

/-- The radius in a packed value: what is left of it when sixteen times the species is taken off. -/
def radiusOf {n : ℕ} (v : Mat F 128 n) : Mat F 128 n :=
  subf v (mulf (broadcast ⟨2, ![128, n]⟩ (Scalar.ofBits .f32 0x41800000#32)) (speciesOf v))

theorem column_fits (n : ℕ) (i : Fin n) : (⟨2, ![128, n]⟩ : Shape).Slices ![0, i.val] S128x1 :=
  ⟨rfl, fun a => by fin_cases a <;> simp [Fin.cast]⟩

/-- The columns of a matrix of 128 rows, one below the other. -/
def stack (n M : ℕ) (h : Shape.Concatenates (List.replicate n S128x1) ⟨2, ![M, 1]⟩ 0) (v : Mat F 128 n) : Mat F M 1 :=
  concatenate ⟨2, ![M, 1]⟩ 0
    (List.ofFn fun i : Fin n => (⟨S128x1, extractStridedSlice S128x1 ![0, i.val] v (column_fits n i)⟩ : (s : Shape) × (s.Idx → F .f32)))
    (by rw [List.map_ofFn]; simpa [Function.comp_def, List.ofFn_const] using h)

/-- What one part stores for one `l`, with the sine `sn`. -/
def part (c n M : ℕ) (sn : Mat F M 40 → Mat F M 40) (hs : S50x128.Slices ![c, 0] ⟨2, ![n, 128]⟩)
    (ht : (⟨2, ![n, 128]⟩ : Shape).Transposes [1, 0] ⟨2, ![128, n]⟩)
    (h : Shape.Concatenates (List.replicate n S128x1) ⟨2, ![M, 1]⟩ 0) (l : ℕ) (hl : l < 4)
    (x : FVec F S1x50x128 .f32) (cz clid : Mat F 1 40) (chid : Mat F 1 128) (w1 : Mat F 40 512)
    (w2 w3 : FVec F S1x128x128 .f32) (w4 : FVec F S1x128x10 .f32) : FVec F ⟨3, ![1, M, 10]⟩ .f32 :=
  let v := packed c n hs ht x
  branch l hl (stack n M h (speciesOf v)) chid
    (cand sn (mulf (stack n M h (radiusOf v)) (broadcast ⟨2, ![M, 1]⟩ (Named.named κ "inv_r_cut" 0x3E4CCCCD#32))) cz clid w1)
    w2 w3 w4

end Cert.KernelIdeal.Net

end
-- ==== Proof.Rows.lean ====
/-
  What a part of a block computes at one of its rows, over the extended reals.
-/
module

public import proofs.«01_k».proof.Proof.Stages

@[expose] public section

set_option maxRecDepth 16384

noncomputable section

namespace Cert.KernelIdeal.Net

open Cert.KernelIdeal Cert.KernelIdeal.Gen Idealize.ShloMosaic Idealize.SL.Sem

/-- `u + u · tanh u` of a number. -/
def gateE (u : EReal) : EReal := u + u * Ideal.tanh u

/-- A row vector times a matrix. -/
def layer {K N : ℕ} (h : Fin K → EReal) (w : Fin K → Fin N → EReal) (k : Fin N) : EReal := ∑ i, h i * w i k

/-- The layers behind the first one, of a row of 128 masked candidates. -/
def tailE (u : Fin 128 → EReal) (w2 w3 : Fin 128 → Fin 128 → EReal) (w4 : Fin 128 → Fin 10 → EReal) : Fin 10 → EReal :=
  layer (fun i => gateE (layer (fun i => gateE (layer (fun i => gateE (u i)) w2 i)) w3 i)) w4

/-- One basis value, of wave number `z`, exponent `e` and scaled radius `a`, by the sine `sn`. -/
def basisE (sn : EReal → EReal) (z e a : EReal) : EReal :=
  Ideal.div (sn (z * a)) (z * a) *
    if e = 0 then 1 else if e = 1 then a else if e = Ideal.ofBits .f32 0x40000000#32 then a * a else a * a * a

/-- `c` in an odd quarter, `s` in an even one, negated in the second half turn. -/
def byQuarterE (q c s : EReal) : EReal :=
  let v := if q = 1 ∨ q = Ideal.ofBits .f32 0x40400000#32 then c else s
  if Ideal.ofBits .f32 0x40000000#32 ≤ q then 0 - v else v

/-- The kernel's own sine of a number. -/
def turnedE (x : EReal) : EReal :=
  let n := Ideal.liftRound Int.floor (x * Ideal.ofBits .f32 0x3F22F983#32 + Ideal.ofBits .f32 0x3F000000#32)
  let y := x - n * Ideal.ofBits .f32 0x3FC90FDB#32
  let q := n - Ideal.ofBits .f32 0x40800000#32 * Ideal.liftRound Int.floor (n * Ideal.ofBits .f32 0x3E800000#32)
  let s := y * (1 + y * y * (Ideal.ofBits .f32 0xBE2AAAAB#32 + y * y * (Ideal.ofBits .f32 0x3C088886#32 + y * y * Ideal.ofBits .f32 0xB9500C03#32)))
  let c := 1 + y * y * (Ideal.ofBits .f32 0xBF000000#32 + y * y * (Ideal.ofBits .f32 0x3D2AAAA4#32 + y * y * Ideal.ofBits .f32 0xBAB6061A#32))
  byQuarterE q c s

/-- A row repeated down a matrix, read at an entry. -/
theorem down_apply {α : Type} (M N : ℕ) (v : (⟨2, ![1, N]⟩ : Shape).Idx → α) (q : Fin M) (i : Fin N) :
    down M N v (ix2 q i) = v (ix2 0 i) := by
  refine congrArg v (funext fun b => Fin.ext ?_)
  match b with
  | ⟨0, _⟩ => rfl
  | ⟨1, _⟩ =>
    show (Fin.val (if h : N = 1 then _ else _)) = i.val
    split
    · next h => subst h; exact (Nat.lt_one_iff.mp (Fin.isLt _)).symm
    · rfl

/-- A column repeated across a matrix, read at an entry. -/
theorem across_apply {α : Type} (M N : ℕ) (v : (⟨2, ![M, 1]⟩ : Shape).Idx → α) (q : Fin M) (i : Fin N) :
    across M N v (ix2 q i) = v (ix2 q 0) := by
  refine congrArg v (funext fun b => Fin.ext ?_)
  match b with
  | ⟨0, _⟩ =>
    show (Fin.val (if h : M = 1 then _ else _)) = q.val
    split
    · next h => subst h; exact (Nat.lt_one_iff.mp (Fin.isLt _)).symm
    · rfl
  | ⟨1, _⟩ => rfl

theorem keep_eq {α : Type} {s : Shape} (v : s.Idx → α) : keep v = v := by
  funext i; simp [keep, shapeCast]

theorem prod_apply {M K N : ℕ} (a : Mat Ideal M K) (w : Mat Ideal K N) (q : Fin M) (k : Fin N) :
    prod a w (ix2 q k) = layer (fun i => a (ix2 q i)) (fun i k => w (ix2 i k)) k := by
  show Ideal.matmul (DotDims.plain M K N) a w _ (ix2 q k) = _
  rw [Ideal.matmul_apply₁_of (DotDims.plain M K N) rfl rfl a w _ _ (fun i => ix2 q i) (fun i => ix2 i k)
    (fun i => by funext b; match b with | ⟨0, _⟩ => rfl | ⟨1, _⟩ => rfl)
    (fun i => by funext b; match b with | ⟨0, _⟩ => rfl | ⟨1, _⟩ => rfl)]
  pointwise [layer]

theorem select_or {α : Type} (p q : Prop) [Decidable p] [Decidable q] (a b : α) :
    Scalar.select (IntOp.ori (BitVec.ofBool (decide p)) (BitVec.ofBool (decide q))) a b = if p ∨ q then a else b := by
  by_cases hp : p <;> by_cases hq : q <;> simp [Scalar.select, IntOp.ori, hp, hq]

theorem byQuarter_apply {M N : ℕ} (q c s : Mat Ideal M N) (i : (⟨2, ![M, N]⟩ : Shape).Idx) :
    byQuarter q c s i = byQuarterE (q i) (c i) (s i) := by
  pointwise [byQuarter, byQuarterE, lit, select_or]

theorem turned_apply {M N : ℕ} (x : Mat Ideal M N) (i : (⟨2, ![M, N]⟩ : Shape).Idx) : turned x i = turnedE (x i) := by
  pointwise [turned, turnedE, byQuarter_apply, lit]

theorem gate_apply {M N : ℕ} (u : Mat Ideal M N) (j : (⟨2, ![M, N]⟩ : Shape).Idx) : gate u j = gateE (u j) := by
  pointwise [gate, gateE]

theorem basis_apply {M : ℕ} (sn : Mat Ideal M 40 → Mat Ideal M 40) (f : EReal → EReal) (hf : ∀ x i, sn x i = f (x i))
    (rad : Mat Ideal M 1) (cz clid : Mat Ideal 1 40) (q : Fin M) (i : Fin 40) :
    basis sn rad cz clid (ix2 q i) = basisE f (cz (ix2 0 i)) (clid (ix2 0 i)) (rad (ix2 q 0)) := by
  pointwise [basis, hf, keep_eq, down_apply, across_apply, basisE]

theorem branch_apply {M : ℕ} (l : ℕ) (hl : l < 4) (spec : Mat Ideal M 1) (chid : Mat Ideal 1 128) (cd : Mat Ideal M 512)
    (w2 w3 : FVec Ideal S1x128x128 .f32) (w4 : FVec Ideal S1x128x10 .f32) (q : Fin M) (k : Fin 10) :
    branch l hl spec chid cd w2 w3 w4 (ix3 0 q k) =
      tailE (fun i => if chid (ix2 0 i) = spec (ix2 q 0) then cd (ix2 q ⟨128 * l + i, by omega⟩) else 0)
        (fun i j => w2 (ix3 0 i j)) (fun i j => w3 (ix3 0 i j)) (fun i j => w4 (ix3 0 i j)) k := by
  have e : Shape.reshapeEquiv (unit_fits M) (ix3 0 q k) = ix2 q k :=
    Shape.reshapeEquiv_eq_of_rowMajor _ (by
      rw [rowMajor_val2 (d := ![M, 10]) _ 10 rfl, rowMajor_val3 (d := ![1, M, 10]) _ (M * 10) 10 rfl rfl]; simp)
  unfold branch shapeCast
  simp only [e, prod_apply, gate_apply]
  pointwise [tailE, down_apply, across_apply]

/-- A part's packed value: chunk `c + i`, lane `a`. -/
theorem packed_apply (c n : ℕ) (hs : S50x128.Slices ![c, 0] ⟨2, ![n, 128]⟩)
    (ht : (⟨2, ![n, 128]⟩ : Shape).Transposes [1, 0] ⟨2, ![128, n]⟩) (hc : c + n ≤ 50) (x : FVec Ideal S1x50x128 .f32)
    (a : Fin 128) (i : Fin n) : packed c n hs ht x (ix2 a i) = x (ix3 0 ⟨c + i, by omega⟩ a) := by
  pointwise [packed]

/-- Row `q` of the stacked columns is entry `q % 128` of column `q / 128`. -/
theorem stack_apply (n M : ℕ) (h : Shape.Concatenates (List.replicate n S128x1) ⟨2, ![M, 1]⟩ 0) (hM : M = 128 * n)
    (v : Mat Ideal 128 n) (q : Fin M) :
    stack n M h v (ix2 q 0) = v (ix2 ⟨q % 128, by omega⟩ ⟨q / 128, by omega⟩) := by
  unfold stack
  rw [Idealize.ShloMosaic.concatenate_ofFn_apply (t := ⟨2, ![M, 1]⟩) (s₁ := S128x1) 0 _ _ rfl 128 rfl (ix2 q 0) ⟨q / 128, by omega⟩ rfl
    (ix2 ⟨q % 128, by omega⟩ 0) rfl (fun b hb => by
      match b with
      | ⟨0, _⟩ => exact absurd rfl hb
      | ⟨1, _⟩ => rfl)]
  pointwise

/-- What the body with the sine `f` makes of one packed value `v`: its species, its scaled radius, and from these the outputs for `l`. -/
def netE (f : EReal → EReal) (v : EReal) (z e : Fin 40 → EReal) (ch : Fin 128 → EReal) (w1 : Fin 40 → Fin 512 → EReal)
    (w2 w3 : Fin 128 → Fin 128 → EReal) (w4 : Fin 128 → Fin 10 → EReal) (l : ℕ) (hl : l < 4) (k : Fin 10) : EReal :=
  let s := Ideal.liftRound Int.floor (v * Ideal.ofBits .f32 0x3D800000#32)
  let a := (v - Ideal.ofBits .f32 0x41800000#32 * s) * Named.named (F := Ideal) κ "inv_r_cut" (φ := .f32) 0x3E4CCCCD#32
  tailE (fun i => if ch i = s then layer (fun j => basisE f (z j) (e j) a) w1 ⟨128 * l + i, by omega⟩ else 0)
    w2 w3 w4 k

/-- A part at its row `q`: the body's function of the packed value at chunk `c + q / 128`, lane `q % 128`. -/
theorem part_apply (c n M : ℕ) (sn : Mat Ideal M 40 → Mat Ideal M 40) (f : EReal → EReal) (hf : ∀ x i, sn x i = f (x i))
    (hs : S50x128.Slices ![c, 0] ⟨2, ![n, 128]⟩)
    (ht : (⟨2, ![n, 128]⟩ : Shape).Transposes [1, 0] ⟨2, ![128, n]⟩)
    (h : Shape.Concatenates (List.replicate n S128x1) ⟨2, ![M, 1]⟩ 0) (hM : M = 128 * n) (hc : c + n ≤ 50) (l : ℕ) (hl : l < 4)
    (x : FVec Ideal S1x50x128 .f32) (cz clid : Mat Ideal 1 40) (chid : Mat Ideal 1 128) (w1 : Mat Ideal 40 512)
    (w2 w3 : FVec Ideal S1x128x128 .f32) (w4 : FVec Ideal S1x128x10 .f32) (q : Fin M) (k : Fin 10) :
    part c n M sn hs ht h l hl x cz clid chid w1 w2 w3 w4 (ix3 0 q k) =
      netE f (x (ix3 0 ⟨c + q / 128, by omega⟩ ⟨q % 128, by omega⟩)) (fun i => cz (ix2 0 i)) (fun i => clid (ix2 0 i))
        (fun i => chid (ix2 0 i)) (fun i j => w1 (ix2 i j)) (fun i j => w2 (ix3 0 i j)) (fun i j => w3 (ix3 0 i j))
        (fun i j => w4 (ix3 0 i j)) l hl k := by
  unfold part
  simp only [branch_apply]
  unfold cand
  simp only [prod_apply, basis_apply sn f hf, keep_eq, stack_apply n M h hM]
  pointwise [netE, speciesOf, radiusOf, packed_apply c n hs ht hc, stack_apply n M h hM]

end Cert.KernelIdeal.Net

end
-- ==== Proof.Block.lean ====
/-
  What the body leaves in a block of the result, over the extended reals: at every entry the body's function of that
  entry's packed value. Sixteen stores, four parts by four `l`, tile the block; each is a part read at its rows.
-/
module

public import proofs.«01_k».proof.Proof.Gen.KernelIdeal.Value
public import proofs.«01_k».proof.Proof.Rows
public import Idealize.ShloMosaic.Lib.Pipeline.ValueKit
public import Idealize.ShloMosaic.Lib.Pipeline.ReadBack

@[expose] public section

set_option maxRecDepth 16384

noncomputable section

namespace Cert.KernelIdeal.Net

open Cert.KernelIdeal Cert.KernelIdeal.Gen Idealize.ShloMosaic Idealize.ShloMosaic.TcCoe Idealize.SL.Sem

/-- A block of the result, with the sine `f`, as a function of the six input blocks: packed values, table rows and four weight arrays. -/
def blockE (f : EReal → EReal) (x0 : FVec Ideal S1x50x128 .f32) (x1 : FVec Ideal S8x128 .f32) (x2 : FVec Ideal S40x512 .f32)
    (x3 x4 : FVec Ideal S4x128x128 .f32) (x5 : FVec Ideal S4x128x10 .f32) (l : Fin 4) (q : Fin 6400) (k : Fin 10) : EReal :=
  netE f (x0 (ix3 0 ⟨q / 128, by omega⟩ ⟨q % 128, by omega⟩)) (fun i => x1 (ix2 0 ⟨i, by omega⟩)) (fun i => x1 (ix2 1 ⟨i, by omega⟩))
    (fun i => x1 (ix2 2 i)) (fun i j => x2 (ix2 i j)) (fun i j => x3 (ix3 l i j)) (fun i j => x4 (ix3 l i j))
    (fun i j => x5 (ix3 l i j)) l l.isLt k

/-- A rectangle of an array. -/
abbrev cut {S : Shape} (X : FVec Ideal S .f32) (r : Rect S) : FVec Ideal r.shape .f32 := View.ld (Val := Elt Ideal) (e' := .f32) X r

/-- One store, a part for one `l`, holds the block's values at the rows it is stored to. -/
theorem part_block (f : EReal → EReal) (c n M : ℕ) (sn : Mat Ideal M 40 → Mat Ideal M 40) (hf : ∀ x i, sn x i = f (x i)) (hs : S50x128.Slices ![c, 0] ⟨2, ![n, 128]⟩)
    (ht : (⟨2, ![n, 128]⟩ : Shape).Transposes [1, 0] ⟨2, ![128, n]⟩)
    (h : Shape.Concatenates (List.replicate n S128x1) ⟨2, ![M, 1]⟩ 0) (hM : M = 128 * n) (hc : c + n ≤ 50) (l : ℕ) (hl : l < 4)
    (x0 : FVec Ideal S1x50x128 .f32) (x1 : FVec Ideal S8x128 .f32) (x2 : FVec Ideal S40x512 .f32)
    (x3 x4 : FVec Ideal S4x128x128 .f32) (x5 : FVec Ideal S4x128x10 .f32)
    (i3 : ∀ a, (![l, 0, 0] : Fin 3 → ℕ) a + (![1, 128, 128] : Fin 3 → ℕ) a ≤ S4x128x128.size a)
    (i5 : ∀ a, (![l, 0, 0] : Fin 3 → ℕ) a + (![1, 128, 10] : Fin 3 → ℕ) a ≤ S4x128x10.size a)
    (o : ℕ) (ho : o = 128 * c) (io : ∀ a, (![l, o, 0] : Fin 3 → ℕ) a + (![1, M, 10] : Fin 3 → ℕ) a ≤ S4x6400x10.size a)
    (y : (⟨3, ![1, M, 10]⟩ : Shape).Idx) :
    part c n M sn hs ht h l hl x0 (cut x1 (Rect.unit (s := S8x128) ![0, 0] ![1, 40] inb_S8x128_S1x40_0_0))
        (cut x1 (Rect.unit (s := S8x128) ![1, 0] ![1, 40] inb_S8x128_S1x40_1_0))
        (cut x1 (Rect.unit (s := S8x128) ![2, 0] ![1, 128] inb_S8x128_S1x128_2_0)) x2
        (cut x3 (Rect.unit (s := S4x128x128) ![l, 0, 0] ![1, 128, 128] i3)) (cut x4 (Rect.unit (s := S4x128x128) ![l, 0, 0] ![1, 128, 128] i3))
        (cut x5 (Rect.unit (s := S4x128x10) ![l, 0, 0] ![1, 128, 10] i5)) y =
      (fun j : S4x6400x10.Idx => blockE f x0 x1 x2 x3 x4 x5 (j 0) (j 1) (j 2)) ((Rect.unit (s := S4x6400x10) ![l, o, 0] ![1, M, 10] io).emb y) := by
  subst hM ho
  obtain ⟨a, q, k, rfl⟩ : ∃ (a : Fin 1) (q : Fin (128 * n)) (k : Fin 10), y = ix3 a q k := ⟨y 0, y 1, y 2, eq_ix3 y⟩
  obtain rfl : a = 0 := Subsingleton.elim _ _
  have e : (Rect.unit (s := S4x6400x10) ![l, 128 * c, 0] ![1, 128 * n, 10] io).emb (ix3 0 q k) =
      ix3 (⟨l, hl⟩ : Fin 4) (⟨128 * c + q, by omega⟩ : Fin 6400) k := by
    funext b; apply Fin.ext
    match b with
    | ⟨0, _⟩ => exact Nat.add_zero l
    | ⟨1, _⟩ => exact congrArg (128 * c + ·) (Nat.one_mul _)
    | ⟨2, _⟩ => exact (Nat.zero_add _).trans (Nat.one_mul _)
  rw [part_apply c n _ sn f hf hs ht h rfl hc l hl, e]
  have e0 : (128 * c + q.val) / 128 = c + q / 128 := by omega
  have e1 : (128 * c + q.val) % 128 = q % 128 := by omega
  pointwise [blockE, cut, e0, e1]

variable (m : (ℓ : Loc nD τ sig) → Buf (Elt Ideal) ℓ)

/-- What point `t` leaves in the block of the result. -/
theorem outs_eq (c : Dev nD) (t : Fin cfg0.N) (y : S4x6400x10.Idx) :
    outsAt0 m c t y = blockE turnedE (iblk m c 0 t) (iblk m c 1 t) (iblk m c 2 t) (iblk m c 3 t) (iblk m c 4 t) (iblk m c 5 t)
      (y 0) (y 1) (y 2) := by
  show out0_A_6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (iblk m c 0 t) (iblk m c 1 t) (iblk m c 2 t) (iblk m c 3 t) (iblk m c 4 t) (iblk m c 5 t) y = _
  frame_out
  -- the four parts, for any `l`
  have p0 := part_block turnedE 0 12 1536 turned turned_apply (by decide) (by decide) (by decide) rfl (by decide)
  have p1 := part_block turnedE 12 12 1536 turned turned_apply (by decide) (by decide) (by decide) rfl (by decide)
  have p2 := part_block turnedE 24 13 1664 turned turned_apply (by decide) (by decide) (by decide) rfl (by decide)
  have p3 := part_block turnedE 37 13 1664 turned turned_apply (by decide) (by decide) (by decide) rfl (by decide)
  generalize iblk m c 0 t = x0, iblk m c 1 t = x1, iblk m c 2 t = x2, iblk m c 3 t = x3, iblk m c 4 t = x4, iblk m c 5 t = x5
  have i3 : ∀ l : Fin 4, ∀ a, ![l.val, 0, 0] a + ![1, 128, 128] a ≤ S4x128x128.size a := by decide
  have i5 : ∀ l : Fin 4, ∀ a, ![l.val, 0, 0] a + ![1, 128, 10] a ≤ S4x128x10.size a := by decide
  have g0 := fun l : Fin 4 => p0 l l.isLt x0 x1 x2 x3 x4 x5 (i3 l) (i5 l) 0 rfl (by revert l; decide)
  have g1 := fun l : Fin 4 => p1 l l.isLt x0 x1 x2 x3 x4 x5 (i3 l) (i5 l) 1536 rfl (by revert l; decide)
  have g2 := fun l : Fin 4 => p2 l l.isLt x0 x1 x2 x3 x4 x5 (i3 l) (i5 l) 3072 rfl (by revert l; decide)
  have g3 := fun l : Fin 4 => p3 l l.isLt x0 x1 x2 x3 x4 x5 (i3 l) (i5 l) 4736 rfl (by revert l; decide)
  refine View.canon_apply_of_pieces (Val := Elt Ideal) (e := .f32) (fun j : S4x6400x10.Idx => blockE turnedE x0 x1 x2 x3 x4 x5 (j 0) (j 1) (j 2)) _
    ?_ y (View.cover_of_tiledBy _ ![1, 128, 10] (by sl_kernel_rfl) y)
  refine View.PiecesOf.mem (Val := Elt Ideal) (e := .f32) (G := fun j : S4x6400x10.Idx => blockE turnedE x0 x1 x2 x3 x4 x5 (j 0) (j 1) (j 2)) ?_
  exact ⟨g3 3, g3 2, g3 1, g3 0, g2 3, g2 2, g2 1, g2 0, g1 3, g1 2, g1 1, g1 0, g0 3, g0 2, g0 1, g0 0, trivial⟩

end Cert.KernelIdeal.Net

end
-- ==== Proof.Host.lean ====
/-
  What the kernel's launch finds in its input arrays, over the extended reals, as functions of the arguments: the radius and
  sixteen times the species packed in one number, the table, the first layer's weights side by side, the second and third
  layers' weights block-diagonal, and the last layer's weights reshaped. The first three layers' weights are halved.
-/
module

public import proofs.«01_k».proof.Proof.Block
public import Idealize.ShloMosaic.Lib.StableHlo.ReadAt
public import Idealize.ShloMosaic.Lib.Routing.OpsSet

@[expose] public section

set_option maxRecDepth 16384

noncomputable section

namespace Cert.KernelIdeal.Net

open Cert.KernelIdeal Cert.KernelIdeal.Gen Idealize.ShloMosaic Idealize.ShloMosaic.TcCoe Idealize.SL.Sem

/-! ## Blocks set one after another -/

/-- One half. -/
abbrev half : EReal := Ideal.ofBits .f32 0x3F000000#32

/-- The first layer's wide matrix when its first `n` blocks of columns are set: block `4 l + s` of the columns holds half of
    `W`'s matrix of `(l, s)` in the rows of `l`. -/
def wide (W : FVec Ideal S4x4x10x32 .f32) (n : ℕ) (p : Fin 40) (q : Fin 512) : EReal :=
  if p.val / 10 = q.val / 128 ∧ q.val / 32 < n then
    half * W (ix4 ⟨q / 128, by omega⟩ ⟨q / 32 % 4, by omega⟩ ⟨p % 10, by omega⟩ ⟨q % 32, by omega⟩) else 0

/-- A later layer's wide matrices when the first `n` diagonal blocks are set, each to half of `W`'s matrix. -/
def diag (W : FVec Ideal S4x4x32x32 .f32) (n : ℕ) (l : Fin 4) (p q : Fin 128) : EReal :=
  if p.val / 32 = q.val / 32 ∧ q.val / 32 < n then
    half * W (ix4 l ⟨q / 32, by omega⟩ ⟨p % 32, by omega⟩ ⟨q % 32, by omega⟩) else 0

/-- Setting block `n` of the first layer's wide matrix. -/
theorem wide_step (W : FVec Ideal S4x4x10x32 .f32) (n : ℕ) (hn : n < 16) (x : FVec Ideal S40x512 .f32) (idx : IVec S2 32)
    (u : FVec Ideal S10x32 .f32) (hx : ∀ p q, x (ix2 p q) = wide W n p q) (h0 : (idx (ix1 0)).toInt = 10 * (n / 4) ∧ (idx (ix1 1)).toInt = 32 * n)
    (hu : ∀ a b, u (ix2 a b) = half * W (ix4 ⟨n / 4, by omega⟩ ⟨n % 4, by omega⟩ a b)) (p : Fin 40) (q : Fin 512) :
    Host.scatter scatter_S40x512_S2_S10x32_01_n_01_0 (fun _ b => b) x idx u (ix2 p q) = wide W (n + 1) p q := by
  have lands : ∀ k : S10x32.Idx, scatter_S40x512_S2_S10x32_01_n_01_0.resultIdx? k idx = some (ix2 p q) ↔
      10 * (n / 4) + (k 0).val = p.val ∧ 32 * n + (k 1).val = q.val := fun k => by
    rw [Routing.resultIdx?_eq_some]
    have s0 : scatter_S40x512_S2_S10x32_01_n_01_0.start k idx 0 = (idx (ix1 0)).toInt := by
      refine congrArg (fun z => (idx z).toInt) (funext fun b => ?_)
      match b with
      | ⟨0, _⟩ => rfl
    have s1 : scatter_S40x512_S2_S10x32_01_n_01_0.start k idx 1 = (idx (ix1 1)).toInt := by
      refine congrArg (fun z => (idx z).toInt) (funext fun b => ?_)
      match b with
      | ⟨0, _⟩ => rfl
    have w0 : scatter_S40x512_S2_S10x32_01_n_01_0.window k 0 = (k 0).val := rfl
    have w1 : scatter_S40x512_S2_S10x32_01_n_01_0.window k 1 = (k 1).val := rfl
    constructor
    · intro h
      have e0 := h 0; have e1 := h 1
      rw [s0, w0, h0.1] at e0; rw [s1, w1, h0.2] at e1
      change _ = (p.val : ℤ) at e0; change _ = (q.val : ℤ) at e1
      omega
    · intro h a
      match a with
      | ⟨0, _⟩ => refine (congrArg₂ (· + ·) (s0.trans h0.1) (congrArg Nat.cast w0)).trans (?_ : _ = (p.val : ℤ)); omega
      | ⟨1, _⟩ => refine (congrArg₂ (· + ·) (s1.trans h0.2) (congrArg Nat.cast w1)).trans (?_ : _ = (q.val : ℤ)); omega
  by_cases h : p.val / 10 = q.val / 128 ∧ q.val / 32 = n
  · have hw : wide W (n + 1) p q = half * W (ix4 ⟨n / 4, by omega⟩ ⟨n % 4, by omega⟩ ⟨p % 10, by omega⟩ ⟨q % 32, by omega⟩) := by
      rw [wide, if_pos ⟨h.1, by omega⟩]
      congr 3 <;> apply Fin.ext <;> dsimp only <;> omega
    rw [hw, ← hu]
    refine Routing.scatter_set_hit _ x idx u _ _ (fun k hk => ?_) (ix2 ⟨p % 10, by omega⟩ ⟨q % 32, by omega⟩) ((lands _).2 ⟨?_, ?_⟩)
    · have := (lands k).1 hk
      have l0 : (k 0).val < 10 := (k 0).isLt
      have l1 : (k 1).val < 32 := (k 1).isLt
      rw [eq_ix2 k]
      refine congrArg u (congrArg₂ ix2 (Fin.ext ?_) (Fin.ext ?_)) <;> dsimp only <;> omega
    · show 10 * (n / 4) + p.val % 10 = p.val; omega
    · show 32 * n + q.val % 32 = q.val; omega
  · rw [Routing.scatter_set_miss _ x idx u _ (fun k hk => h ?_), hx, wide, wide]
    · exact if_congr (by omega) rfl rfl
    · have := (lands k).1 hk
      have l0 : (k 0).val < 10 := (k 0).isLt
      have l1 : (k 1).val < 32 := (k 1).isLt
      omega

/-- Setting diagonal block `n` of a later layer's wide matrices. -/
theorem diag_step (W : FVec Ideal S4x4x32x32 .f32) (n : ℕ) (hn : n < 4) (x : FVec Ideal S4x128x128 .f32) (idx : IVec S2 32)
    (u : FVec Ideal S4x32x32 .f32) (hx : ∀ l p q, x (ix3 l p q) = diag W n l p q)
    (h0 : (idx (ix1 0)).toInt = 32 * n ∧ (idx (ix1 1)).toInt = 32 * n)
    (hu : ∀ l a b, u (ix3 l a b) = half * W (ix4 l ⟨n, hn⟩ a b)) (l : Fin 4) (p q : Fin 128) :
    Host.scatter scatter_S4x128x128_S2_S4x32x32_012_n_12_0 (fun _ b => b) x idx u (ix3 l p q) = diag W (n + 1) l p q := by
  have lands : ∀ k : S4x32x32.Idx, scatter_S4x128x128_S2_S4x32x32_012_n_12_0.resultIdx? k idx = some (ix3 l p q) ↔
      (k 0).val = l.val ∧ 32 * n + (k 1).val = p.val ∧ 32 * n + (k 2).val = q.val := fun k => by
    rw [Routing.resultIdx?_eq_some]
    have s0 : scatter_S4x128x128_S2_S4x32x32_012_n_12_0.start k idx 0 = 0 := rfl
    have s1 : scatter_S4x128x128_S2_S4x32x32_012_n_12_0.start k idx 1 = (idx (ix1 0)).toInt := by
      refine congrArg (fun z => (idx z).toInt) (funext fun b => ?_)
      match b with
      | ⟨0, _⟩ => rfl
    have s2 : scatter_S4x128x128_S2_S4x32x32_012_n_12_0.start k idx 2 = (idx (ix1 1)).toInt := by
      refine congrArg (fun z => (idx z).toInt) (funext fun b => ?_)
      match b with
      | ⟨0, _⟩ => rfl
    have w0 : scatter_S4x128x128_S2_S4x32x32_012_n_12_0.window k 0 = (k 0).val := rfl
    have w1 : scatter_S4x128x128_S2_S4x32x32_012_n_12_0.window k 1 = (k 1).val := rfl
    have w2 : scatter_S4x128x128_S2_S4x32x32_012_n_12_0.window k 2 = (k 2).val := rfl
    constructor
    · intro h
      have e0 := h 0; have e1 := h 1; have e2 := h 2
      rw [s0, w0] at e0; rw [s1, w1, h0.1] at e1; rw [s2, w2, h0.2] at e2
      change _ = (l.val : ℤ) at e0; change _ = (p.val : ℤ) at e1; change _ = (q.val : ℤ) at e2
      omega
    · intro h a
      match a with
      | ⟨0, _⟩ => refine (congrArg₂ (· + ·) s0 (congrArg Nat.cast w0)).trans (?_ : _ = (l.val : ℤ)); omega
      | ⟨1, _⟩ => refine (congrArg₂ (· + ·) (s1.trans h0.1) (congrArg Nat.cast w1)).trans (?_ : _ = (p.val : ℤ)); omega
      | ⟨2, _⟩ => refine (congrArg₂ (· + ·) (s2.trans h0.2) (congrArg Nat.cast w2)).trans (?_ : _ = (q.val : ℤ)); omega
  by_cases h : p.val / 32 = n ∧ q.val / 32 = n
  · have hw : diag W (n + 1) l p q = half * W (ix4 l ⟨n, hn⟩ ⟨p % 32, by omega⟩ ⟨q % 32, by omega⟩) := by
      rw [diag, if_pos ⟨by omega, by omega⟩]
      congr 3; exact Fin.ext h.2
    rw [hw, ← hu]
    refine Routing.scatter_set_hit _ x idx u _ _ (fun k hk => ?_) (ix3 l ⟨p % 32, by omega⟩ ⟨q % 32, by omega⟩) ((lands _).2 ⟨rfl, ?_, ?_⟩)
    · have := (lands k).1 hk
      have l1 : (k 1).val < 32 := (k 1).isLt
      have l2 : (k 2).val < 32 := (k 2).isLt
      obtain ⟨a, b, c, rfl⟩ : ∃ (a : Fin 4) (b c : Fin 32), k = ix3 a b c := ⟨k 0, k 1, k 2, eq_ix3 k⟩
      change a.val = _ ∧ _ + b.val = _ ∧ _ + c.val = _ at this
      obtain rfl : a = l := Fin.ext this.1
      refine congrArg u (congrArg₂ (ix3 a) (Fin.ext ?_) (Fin.ext ?_)) <;> dsimp only <;> omega
    · show 32 * n + p.val % 32 = p.val; omega
    · show 32 * n + q.val % 32 = q.val; omega
  · rw [Routing.scatter_set_miss _ x idx u _ (fun k hk => h ?_), hx, diag, diag]
    · exact if_congr (by omega) rfl rfl
    · have := (lands k).1 hk
      have l1 : (k 1).val < 32 := (k 1).isLt
      have l2 : (k 2).val < 32 := (k 2).isLt
      omega

/-! ## The arrays at the launch -/

variable (m : (ℓ : Loc nD τ sig) → Buf (Elt Ideal) ℓ)

/-- The arguments on core `c`: radii, species and the weights of the four layers. -/
abbrev argR (c : Dev nD) : FVec Ideal S160000 .f32 := m (c, Proc.tc.devRef main_arg0)
@[inherit_doc argR] abbrev argS (c : Dev nD) : IVec S160000 32 := m (c, Proc.tc.devRef main_arg1)
@[inherit_doc argR] abbrev argW1 (c : Dev nD) : FVec Ideal S4x4x10x32 .f32 := m (c, Proc.tc.devRef main_arg2)
@[inherit_doc argR] abbrev argW2 (c : Dev nD) : FVec Ideal S4x4x32x32 .f32 := m (c, Proc.tc.devRef main_arg3)
@[inherit_doc argR] abbrev argW3 (c : Dev nD) : FVec Ideal S4x4x32x32 .f32 := m (c, Proc.tc.devRef main_arg4)
@[inherit_doc argR] abbrev argW4 (c : Dev nD) : FVec Ideal S4x4x32x10 .f32 := m (c, Proc.tc.devRef main_arg5)

/-- The packed values at the launch. -/
theorem pack_read (c : Dev nD) (t : Fin 25) (q : Fin 50) (k : Fin 128) :
    (V m c main_call0_v200 : FVec Ideal S25x50x128 .f32) (ix3 t q k) = (argR m c (ix1 ⟨t * 6400 + q * 128 + k, by omega⟩) : EReal) +
        Ideal.ofBits .f32 0x41800000#32 * (FloatOps.sitofp (F := Ideal) .f32 (argS m c (ix1 ⟨t * 6400 + q * 128 + k, by omega⟩)) : EReal) := by
  unfold V
  after_reads_at

/-- The last layer's weights at the launch. -/
theorem last_read (c : Dev nD) (l : Fin 4) (q : Fin 128) (k : Fin 10) : (V m c main_call0_v195 : FVec Ideal S4x128x10 .f32) (ix3 l q k) =
      argW4 m c (ix4 l ⟨q / 32, by omega⟩ ⟨q % 32, by omega⟩ k) := by
  unfold V
  after_reads_at

/-- The table at the launch. -/
theorem table_read (c : Dev nD) (q : Fin 8) (k : Fin 128) :
    (V m c main_call0_cst : FVec Ideal S8x128 .f32) (ix2 q k) = Ideal.ofBits .f32 (lit0 ⟨q * 128 + k, by omega⟩) := by
  unfold V
  after_reads_at
  exact congrArg (fun i => Ideal.ofBits .f32 (lit0 i)) (Fin.ext (rowMajor_val2 (d := ![8, 128]) _ _ rfl))

/-- The first layer's weights at the launch. -/
theorem wide_read (c : Dev nD) (p : Fin 40) (q : Fin 512) :
    (V m c main_call0_v130 : FVec Ideal S40x512 .f32) (ix2 p q) = wide (argW1 m c) 16 p q := by
  unfold V
  after_reads_simp
  simp -implicitDefEqProofs only [StableHlo.TRef.toBuf, StableHlo.TRef.ofBuf, cast_cast, cast_eq]
  clean_types
  revert p q
  iterate 16 refine wide_step _ _ (by decide) _ _ _ ?_ ?_ ?_
  all_goals try intro p q
  any_goals apply And.intro
  all_goals pointwise
  · rw [wide, if_neg (by omega)]
  all_goals after_reads_at
  all_goals rfl

/-- The second and the third layer's weights at the launch. -/
theorem diag_read (c : Dev nD) :
    (∀ l p q, (V m c main_call0_v186 : FVec Ideal S4x128x128 .f32) (ix3 l p q) = diag (argW2 m c) 4 l p q) ∧
      ∀ l p q, (V m c main_call0_v194 : FVec Ideal S4x128x128 .f32) (ix3 l p q) = diag (argW3 m c) 4 l p q := by
  constructor
  all_goals
    unfold V
    after_reads_simp
    simp -implicitDefEqProofs only [StableHlo.TRef.toBuf, StableHlo.TRef.ofBuf, cast_cast, cast_eq]
    clean_types
    iterate 4 refine diag_step _ _ (by decide) _ _ _ ?_ ?_ ?_
    all_goals try intro l p q
    any_goals apply And.intro
    all_goals pointwise
    · rw [diag, if_neg (by omega)]
    all_goals after_reads_at
    all_goals rfl

end Cert.KernelIdeal.Net

end
-- ==== Proof.Array.lean ====
/-
  The kernel's result array, over the extended reals, entry by entry as a function of the arguments.
-/
module

public import proofs.«01_k».proof.Proof.Host

@[expose] public section

set_option maxRecDepth 16384

noncomputable section

namespace Cert.KernelIdeal.Net

open Cert.KernelIdeal Cert.KernelIdeal.Gen Idealize.ShloMosaic Idealize.ShloMosaic.TcCoe Idealize.SL.Sem

/-- The result at `(l, n, k)` of the kernel with the sine `f`: the body's function of atom `n`'s packed value, over the table's three rows and the wide weights. -/
def kernelE (f : EReal → EReal) (r : FVec Ideal S160000 .f32) (sp : IVec S160000 32) (W1 : FVec Ideal S4x4x10x32 .f32) (W2 W3 : FVec Ideal S4x4x32x32 .f32)
    (W4 : FVec Ideal S4x4x32x10 .f32) (l : Fin 4) (n : Fin 160000) (k : Fin 10) : EReal :=
  netE f ((r (ix1 n) : EReal) + Ideal.ofBits .f32 0x41800000#32 * (FloatOps.sitofp (F := Ideal) .f32 (sp (ix1 n)) : EReal))
    (fun i => Ideal.ofBits .f32 (lit0 ⟨i, by omega⟩)) (fun i => Ideal.ofBits .f32 (lit0 ⟨128 + i, by omega⟩))
    (fun i => Ideal.ofBits .f32 (lit0 ⟨256 + i, by omega⟩)) (wide W1 16) (diag W2 4 l) (diag W3 4 l)
    (fun p k => W4 (ix4 l ⟨p / 32, by omega⟩ ⟨p % 32, by omega⟩ k)) l l.isLt k

variable (m : (ℓ : Loc nD τ sig) → Buf (Elt Ideal) ℓ)

/-- Which block of its array each window is on at point `t`: the packed values and the result move with `t`, the rest is whole. -/
theorem index_at (t : Fin cfg0.N) : win0_0.index t = ![t.val, 0, 0] ∧ win0_1.index t = ![0, 0] ∧ win0_2.index t = ![0, 0] ∧
    win0_3.index t = ![0, 0, 0] ∧ win0_4.index t = ![0, 0, 0] ∧ win0_5.index t = ![0, 0, 0] ∧ win0_6.index t = ![0, t.val, 0] := by
  revert t; decide +kernel

set_option maxHeartbeats 1600000 in
/-- The input blocks at point `t`, read off the arrays at the launch. -/
theorem block_read (c : Dev nD) (t : Fin cfg0.N) :
    (∀ q k, (iblk m c 0 t : FVec Ideal S1x50x128 .f32) (ix3 0 q k) = (V m c main_call0_v200 : FVec Ideal S25x50x128 .f32) (ix3 (⟨t, t.isLt⟩ : Fin 25) q k)) ∧
    (∀ q k, (iblk m c 1 t : FVec Ideal S8x128 .f32) (ix2 q k) = (V m c main_call0_cst : FVec Ideal S8x128 .f32) (ix2 q k)) ∧
    (∀ q k, (iblk m c 2 t : FVec Ideal S40x512 .f32) (ix2 q k) = (V m c main_call0_v130 : FVec Ideal S40x512 .f32) (ix2 q k)) ∧
    (∀ l q k, (iblk m c 3 t : FVec Ideal S4x128x128 .f32) (ix3 l q k) = (V m c main_call0_v186 : FVec Ideal S4x128x128 .f32) (ix3 l q k)) ∧
    (∀ l q k, (iblk m c 4 t : FVec Ideal S4x128x128 .f32) (ix3 l q k) = (V m c main_call0_v194 : FVec Ideal S4x128x128 .f32) (ix3 l q k)) ∧
    ∀ l q k, (iblk m c 5 t : FVec Ideal S4x128x10 .f32) (ix3 l q k) = (V m c main_call0_v195 : FVec Ideal S4x128x10 .f32) (ix3 l q k) := by
  obtain ⟨i0, i1, i2, i3, i4, i5, -⟩ := index_at t
  refine ⟨fun q k => ?_, fun q k => ?_, fun q k => ?_, fun l q k => ?_, fun l q k => ?_, fun l q k => ?_⟩
  · blk_ext [iblk, i0]
  · blk_ext [iblk, i1]
  · blk_ext [iblk, i2]
  · blk_ext [iblk, i3]
  · blk_ext [iblk, i4]
  · blk_ext [iblk, i5]

/-- The whole result array. -/
theorem array_eq (c : Dev nD) : (dats m 0 c).arrAt 6 cfg0.N = fun j : S4x160000x10.Idx =>
    kernelE turnedE (argR m c) (argS m c) (argW1 m c) (argW2 m c) (argW3 m c) (argW4 m c) (j 0) (j 1) (j 2) := by
  refine (dats m 0 c).arrAt_eq_of_covers 6 _ (by decide +kernel) fun t hf y => ?_
  blk_simp
  rw [after0_6, outs_eq]
  obtain ⟨l, q, k, rfl⟩ : ∃ (l : Fin 4) (q : Fin 6400) (k : Fin 10), y = ix3 l q k := ⟨y 0, y 1, y 2, eq_ix3 y⟩
  obtain ⟨b0, b1, b2, b3, b4, b5⟩ := block_read m c t
  have hi := (index_at t).2.2.2.2.2.2
  have ht : t.val < 25 := t.isLt
  have e : ((View.whole main_v0).slice (win0_6.rect t)).emb (ix3 l q k) = ix3 l (⟨t * 6400 + q, by omega⟩ : Fin 160000) k := by
    blk_ext [hi]
  rw [e]
  show blockE _ _ _ _ _ _ _ l q k = kernelE _ _ _ _ _ _ _ l _ k
  unfold blockE kernelE
  have n : (⟨t * 6400 + q.val / 128 * 128 + q.val % 128, by omega⟩ : Fin 160000) = ⟨t * 6400 + q, by omega⟩ := Fin.ext (by dsimp only; omega)
  have d2 := (diag_read m c).1
  have d3 := (diag_read m c).2
  have p0 := pack_read m c ⟨t, ht⟩ ⟨q / 128, by omega⟩ ⟨q % 128, by omega⟩
  have t0 (k : Fin 128) := (table_read m c 0 k).trans (congrArg (fun x => Ideal.ofBits .f32 (lit0 x)) (a₂ := ⟨k, by omega⟩)
    (Fin.ext (show 0 * 128 + k.val = k by omega)))
  have t1 (k : Fin 128) := (table_read m c 1 k).trans (congrArg (fun x => Ideal.ofBits .f32 (lit0 x)) (a₂ := ⟨128 + k, by omega⟩)
    (Fin.ext (show 1 * 128 + k.val = 128 + k by omega)))
  have t2 (k : Fin 128) := (table_read m c 2 k).trans (congrArg (fun x => Ideal.ofBits .f32 (lit0 x)) (a₂ := ⟨256 + k, by omega⟩)
    (Fin.ext (show 2 * 128 + k.val = 256 + k by omega)))
  have p2 := wide_read m c
  have p5 := last_read m c
  simp only [b0, b1, b2, b3, b4, b5, p0, t0, t1, t2, p2, p5, d2, d3, n]
  rfl

end Cert.KernelIdeal.Net

end
-- ==== Proof.LaunchSin.lean ====
/-
  The kernel on `sin`, over the extended reals: the same launch as the unaltered kernel's, with `sin` for its sine. What the
  body leaves in a block, what the launch finds in its input arrays, and the result array entry by entry.
-/
module

public import proofs.«01_k».proof.Proof.Gen.KernelSinIdeal.Value
public import proofs.«01_k».proof.Proof.Array

@[expose] public section

set_option maxRecDepth 16384

noncomputable section

namespace Cert.KernelSinIdeal.Net

open Cert.KernelSinIdeal Cert.KernelSinIdeal.Gen Idealize.ShloMosaic Idealize.ShloMosaic.TcCoe Idealize.SL.Sem
open Cert.KernelIdeal.Net (blockE part_block netE kernelE wide diag half wide_step diag_step)

variable (m : (ℓ : Loc nD τ sig) → Buf (Elt Ideal) ℓ)

/-- What point `t` leaves in the block of the result. -/
theorem outs_eq (c : Dev nD) (t : Fin cfg0.N) (y : S4x6400x10.Idx) :
    outsAt0 m c t y = blockE Ideal.sin (iblk m c 0 t) (iblk m c 1 t) (iblk m c 2 t) (iblk m c 3 t) (iblk m c 4 t) (iblk m c 5 t)
      (y 0) (y 1) (y 2) := by
  show out0_A_6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (iblk m c 0 t) (iblk m c 1 t) (iblk m c 2 t) (iblk m c 3 t) (iblk m c 4 t) (iblk m c 5 t) y = _
  frame_out
  -- the four parts, for any `l`
  have p0 := part_block Ideal.sin 0 12 1536 sin (fun _ _ => rfl) (by decide) (by decide) (by decide) rfl (by decide)
  have p1 := part_block Ideal.sin 12 12 1536 sin (fun _ _ => rfl) (by decide) (by decide) (by decide) rfl (by decide)
  have p2 := part_block Ideal.sin 24 13 1664 sin (fun _ _ => rfl) (by decide) (by decide) (by decide) rfl (by decide)
  have p3 := part_block Ideal.sin 37 13 1664 sin (fun _ _ => rfl) (by decide) (by decide) (by decide) rfl (by decide)
  generalize iblk m c 0 t = x0, iblk m c 1 t = x1, iblk m c 2 t = x2, iblk m c 3 t = x3, iblk m c 4 t = x4, iblk m c 5 t = x5
  have i3 : ∀ l : Fin 4, ∀ a, ![l.val, 0, 0] a + ![1, 128, 128] a ≤ S4x128x128.size a := by decide
  have i5 : ∀ l : Fin 4, ∀ a, ![l.val, 0, 0] a + ![1, 128, 10] a ≤ S4x128x10.size a := by decide
  have g0 := fun l : Fin 4 => p0 l l.isLt x0 x1 x2 x3 x4 x5 (i3 l) (i5 l) 0 rfl (by revert l; decide)
  have g1 := fun l : Fin 4 => p1 l l.isLt x0 x1 x2 x3 x4 x5 (i3 l) (i5 l) 1536 rfl (by revert l; decide)
  have g2 := fun l : Fin 4 => p2 l l.isLt x0 x1 x2 x3 x4 x5 (i3 l) (i5 l) 3072 rfl (by revert l; decide)
  have g3 := fun l : Fin 4 => p3 l l.isLt x0 x1 x2 x3 x4 x5 (i3 l) (i5 l) 4736 rfl (by revert l; decide)
  refine View.canon_apply_of_pieces (Val := Elt Ideal) (e := .f32) (fun j : S4x6400x10.Idx => blockE Ideal.sin x0 x1 x2 x3 x4 x5 (j 0) (j 1) (j 2)) _
    ?_ y (View.cover_of_tiledBy _ ![1, 128, 10] (by sl_kernel_rfl) y)
  refine View.PiecesOf.mem (Val := Elt Ideal) (e := .f32) (G := fun j : S4x6400x10.Idx => blockE Ideal.sin x0 x1 x2 x3 x4 x5 (j 0) (j 1) (j 2)) ?_
  exact ⟨g3 3, g3 2, g3 1, g3 0, g2 3, g2 2, g2 1, g2 0, g1 3, g1 2, g1 1, g1 0, g0 3, g0 2, g0 1, g0 0, trivial⟩

/-- The arguments on core `c`: radii, species and the weights of the four layers. -/
abbrev argR (c : Dev nD) : FVec Ideal S160000 .f32 := m (c, Proc.tc.devRef main_arg0)
@[inherit_doc argR] abbrev argS (c : Dev nD) : IVec S160000 32 := m (c, Proc.tc.devRef main_arg1)
@[inherit_doc argR] abbrev argW1 (c : Dev nD) : FVec Ideal S4x4x10x32 .f32 := m (c, Proc.tc.devRef main_arg2)
@[inherit_doc argR] abbrev argW2 (c : Dev nD) : FVec Ideal S4x4x32x32 .f32 := m (c, Proc.tc.devRef main_arg3)
@[inherit_doc argR] abbrev argW3 (c : Dev nD) : FVec Ideal S4x4x32x32 .f32 := m (c, Proc.tc.devRef main_arg4)
@[inherit_doc argR] abbrev argW4 (c : Dev nD) : FVec Ideal S4x4x32x10 .f32 := m (c, Proc.tc.devRef main_arg5)

/-- The packed values at the launch. -/
theorem pack_read (c : Dev nD) (t : Fin 25) (q : Fin 50) (k : Fin 128) :
    (V m c main_call0_v200 : FVec Ideal S25x50x128 .f32) (ix3 t q k) = (argR m c (ix1 ⟨t * 6400 + q * 128 + k, by omega⟩) : EReal) +
        Ideal.ofBits .f32 0x41800000#32 * (FloatOps.sitofp (F := Ideal) .f32 (argS m c (ix1 ⟨t * 6400 + q * 128 + k, by omega⟩)) : EReal) := by
  unfold V
  after_reads_at

/-- The last layer's weights at the launch. -/
theorem last_read (c : Dev nD) (l : Fin 4) (q : Fin 128) (k : Fin 10) : (V m c main_call0_v195 : FVec Ideal S4x128x10 .f32) (ix3 l q k) =
      argW4 m c (ix4 l ⟨q / 32, by omega⟩ ⟨q % 32, by omega⟩ k) := by
  unfold V
  after_reads_at

/-- The table at the launch. -/
theorem table_read (c : Dev nD) (q : Fin 8) (k : Fin 128) :
    (V m c main_call0_cst : FVec Ideal S8x128 .f32) (ix2 q k) = Ideal.ofBits .f32 (lit0 ⟨q * 128 + k, by omega⟩) := by
  unfold V
  after_reads_at
  exact congrArg (fun i => Ideal.ofBits .f32 (lit0 i)) (Fin.ext (rowMajor_val2 (d := ![8, 128]) _ _ rfl))

/-- The first layer's weights at the launch. -/
theorem wide_read (c : Dev nD) (p : Fin 40) (q : Fin 512) :
    (V m c main_call0_v130 : FVec Ideal S40x512 .f32) (ix2 p q) = wide (argW1 m c) 16 p q := by
  unfold V
  after_reads_simp
  simp -implicitDefEqProofs only [StableHlo.TRef.toBuf, StableHlo.TRef.ofBuf, cast_cast, cast_eq]
  clean_types
  revert p q
  iterate 16 refine wide_step _ _ (by decide) _ _ _ ?_ ?_ ?_
  all_goals try intro p q
  any_goals apply And.intro
  all_goals pointwise
  · rw [wide, if_neg (by omega)]
  all_goals after_reads_at
  all_goals rfl

/-- The second and the third layer's weights at the launch. -/
theorem diag_read (c : Dev nD) :
    (∀ l p q, (V m c main_call0_v186 : FVec Ideal S4x128x128 .f32) (ix3 l p q) = diag (argW2 m c) 4 l p q) ∧
      ∀ l p q, (V m c main_call0_v194 : FVec Ideal S4x128x128 .f32) (ix3 l p q) = diag (argW3 m c) 4 l p q := by
  constructor
  all_goals
    unfold V
    after_reads_simp
    simp -implicitDefEqProofs only [StableHlo.TRef.toBuf, StableHlo.TRef.ofBuf, cast_cast, cast_eq]
    clean_types
    iterate 4 refine diag_step _ _ (by decide) _ _ _ ?_ ?_ ?_
    all_goals try intro l p q
    any_goals apply And.intro
    all_goals pointwise
    · rw [diag, if_neg (by omega)]
    all_goals after_reads_at
    all_goals rfl

/-- Which block of its array each window is on at point `t`: the packed values and the result move with `t`, the rest is whole. -/
theorem index_at (t : Fin cfg0.N) : win0_0.index t = ![t.val, 0, 0] ∧ win0_1.index t = ![0, 0] ∧ win0_2.index t = ![0, 0] ∧
    win0_3.index t = ![0, 0, 0] ∧ win0_4.index t = ![0, 0, 0] ∧ win0_5.index t = ![0, 0, 0] ∧ win0_6.index t = ![0, t.val, 0] := by
  revert t; decide +kernel

set_option maxHeartbeats 1600000 in
/-- The input blocks at point `t`, read off the arrays at the launch. -/
theorem block_read (c : Dev nD) (t : Fin cfg0.N) :
    (∀ q k, (iblk m c 0 t : FVec Ideal S1x50x128 .f32) (ix3 0 q k) = (V m c main_call0_v200 : FVec Ideal S25x50x128 .f32) (ix3 (⟨t, t.isLt⟩ : Fin 25) q k)) ∧
    (∀ q k, (iblk m c 1 t : FVec Ideal S8x128 .f32) (ix2 q k) = (V m c main_call0_cst : FVec Ideal S8x128 .f32) (ix2 q k)) ∧
    (∀ q k, (iblk m c 2 t : FVec Ideal S40x512 .f32) (ix2 q k) = (V m c main_call0_v130 : FVec Ideal S40x512 .f32) (ix2 q k)) ∧
    (∀ l q k, (iblk m c 3 t : FVec Ideal S4x128x128 .f32) (ix3 l q k) = (V m c main_call0_v186 : FVec Ideal S4x128x128 .f32) (ix3 l q k)) ∧
    (∀ l q k, (iblk m c 4 t : FVec Ideal S4x128x128 .f32) (ix3 l q k) = (V m c main_call0_v194 : FVec Ideal S4x128x128 .f32) (ix3 l q k)) ∧
    ∀ l q k, (iblk m c 5 t : FVec Ideal S4x128x10 .f32) (ix3 l q k) = (V m c main_call0_v195 : FVec Ideal S4x128x10 .f32) (ix3 l q k) := by
  obtain ⟨i0, i1, i2, i3, i4, i5, -⟩ := index_at t
  refine ⟨fun q k => ?_, fun q k => ?_, fun q k => ?_, fun l q k => ?_, fun l q k => ?_, fun l q k => ?_⟩
  · blk_ext [iblk, i0]
  · blk_ext [iblk, i1]
  · blk_ext [iblk, i2]
  · blk_ext [iblk, i3]
  · blk_ext [iblk, i4]
  · blk_ext [iblk, i5]

/-- The whole result array. -/
theorem array_eq (c : Dev nD) : (dats m 0 c).arrAt 6 cfg0.N = fun j : S4x160000x10.Idx =>
    kernelE Ideal.sin (argR m c) (argS m c) (argW1 m c) (argW2 m c) (argW3 m c) (argW4 m c) (j 0) (j 1) (j 2) := by
  refine (dats m 0 c).arrAt_eq_of_covers 6 _ (by decide +kernel) fun t hf y => ?_
  blk_simp
  rw [after0_6, outs_eq]
  obtain ⟨l, q, k, rfl⟩ : ∃ (l : Fin 4) (q : Fin 6400) (k : Fin 10), y = ix3 l q k := ⟨y 0, y 1, y 2, eq_ix3 y⟩
  obtain ⟨b0, b1, b2, b3, b4, b5⟩ := block_read m c t
  have hi := (index_at t).2.2.2.2.2.2
  have ht : t.val < 25 := t.isLt
  have e : ((View.whole main_v0).slice (win0_6.rect t)).emb (ix3 l q k) = ix3 l (⟨t * 6400 + q, by omega⟩ : Fin 160000) k := by
    blk_ext [hi]
  rw [e]
  show blockE _ _ _ _ _ _ _ l q k = kernelE _ _ _ _ _ _ _ l _ k
  unfold blockE kernelE
  have n : (⟨t * 6400 + q.val / 128 * 128 + q.val % 128, by omega⟩ : Fin 160000) = ⟨t * 6400 + q, by omega⟩ := Fin.ext (by dsimp only; omega)
  have d2 := (diag_read m c).1
  have d3 := (diag_read m c).2
  have p0 := pack_read m c ⟨t, ht⟩ ⟨q / 128, by omega⟩ ⟨q % 128, by omega⟩
  have t0 (k : Fin 128) := (table_read m c 0 k).trans (congrArg (fun x => Ideal.ofBits .f32 (lit0 x)) (a₂ := ⟨k, by omega⟩)
    (Fin.ext (show 0 * 128 + k.val = k by omega)))
  have t1 (k : Fin 128) := (table_read m c 1 k).trans (congrArg (fun x => Ideal.ofBits .f32 (lit0 x)) (a₂ := ⟨128 + k, by omega⟩)
    (Fin.ext (show 1 * 128 + k.val = 128 + k by omega)))
  have t2 (k : Fin 128) := (table_read m c 2 k).trans (congrArg (fun x => Ideal.ofBits .f32 (lit0 x)) (a₂ := ⟨256 + k, by omega⟩)
    (Fin.ext (show 2 * 128 + k.val = 256 + k by omega)))
  have p2 := wide_read m c
  have p5 := last_read m c
  simp only [b0, b1, b2, b3, b4, b5, p0, t0, t1, t2, p2, p5, d2, d3, n]
  rfl

end Cert.KernelSinIdeal.Net

end
-- ==== Proof.Reference.lean ====
/-
  The reference's result, over the extended reals, entry by entry as a function of the arguments.
-/
module

public import proofs.«01_k».proof.Proof.Gen.ReferenceIdeal.Run
public import Idealize.ShloMosaic.Lib.Pointwise
public import Idealize.ShloMosaic.Lib.Tactic.CleanTypes
public import Idealize.ShloMosaic.Lib.ShapeFacts
public import Idealize.ShloMosaic.Lib.Pointwise.IndexVar

@[expose] public section

set_option maxRecDepth 16384

noncomputable section

namespace Cert.ReferenceIdeal.Net

open Cert.ReferenceIdeal Cert.ReferenceIdeal.Gen Cert.ReferenceIdeal.Value Idealize.ShloMosaic Idealize.ShloMosaic.StableHlo Idealize.SL.Sem

/-- `u · 1 / (1 + e⁻ᵘ)` of a number. -/
def siluE (u : EReal) : EReal :=
  u * Ideal.div (Ideal.ofBits .f32 0x3F800000#32) (Ideal.ofBits .f32 0x3F800000#32 + Ideal.exp (-u))

/-- The power of the scaled radius that goes with `l`. -/
def powE (l : Fin 4) (a : EReal) : EReal :=
  match l with
  | 0 => Ideal.ofBits .f32 0x3F800000#32
  | 1 => a
  | 2 => a * a
  | 3 => a * a * a

/-- The number of quarter turns nearest to a phase. -/
def turnsE (x : EReal) : EReal :=
  Ideal.liftRound Int.floor (x * Ideal.ofBits .f32 0x3F22F983#32 + Ideal.ofBits .f32 0x3F000000#32)

/-- What is left of a phase after its quarter turns. -/
def restE (x : EReal) : EReal :=
  x - turnsE x * Ideal.ofBits .f32 0x3FC90FDB#32

/-- The odd polynomial of the reference's sine. -/
def oddE (y : EReal) : EReal :=
  y - Ideal.ofBits .f32 0x3E2AAAAB#32 * (y * y * y) + Ideal.ofBits .f32 0x3C088886#32 * (y * (y * y * (y * y))) -
    Ideal.ofBits .f32 0x39500C03#32 * (y * (y * y) * (y * y * (y * y)))

/-- The even polynomial of the reference's sine. -/
def evenE (y : EReal) : EReal :=
  Ideal.ofBits .f32 0x3F800000#32 - Ideal.ofBits .f32 0x3F000000#32 * (y * y) + Ideal.ofBits .f32 0x3D2AAAA4#32 * (y * y * (y * y)) -
    Ideal.ofBits .f32 0x3AB6061A#32 * (y * y * (y * y * (y * y)))

/-- The reference's choice by the quarter. -/
def chooseE (q s c : EReal) : EReal :=
  if q = Ideal.ofBits .f32 0x00000000#32 then s else if q = Ideal.ofBits .f32 0x3F800000#32 then c
  else if q = Ideal.ofBits .f32 0x40000000#32 then -s else -c

/-- The polynomial sine of a number. -/
def quarterE (x : EReal) : EReal :=
  chooseE (turnsE x - Ideal.ofBits .f32 0x40800000#32 * Ideal.liftRound Int.floor (Ideal.div (turnsE x) (Ideal.ofBits .f32 0x40800000#32)))
    (oddE (restE x)) (evenE (restE x))

/-- One basis value, by the sine `f`, of wave number `z` and scaled radius `a`. -/
def waveE (f : EReal → EReal) (l : Fin 4) (z a : EReal) : EReal :=
  Ideal.div (f (z * a)) (max (z * a) (Ideal.ofBits .f32 0x358637BD#32)) * powE l a

/-- A row vector times species `s`'s weights for `l`. -/
def apply {K N : ℕ} (W : FVec Ideal ⟨4, ![4, 4, K, N]⟩ .f32) (l s : Fin 4) (h : Fin K → EReal) (k : Fin N) : EReal :=
  ∑ j, h j * W (ix4 l s j k)

/-- The four layers of species `s` for `l`, on a row of basis values. -/
def mlpE (W1 : FVec Ideal S4x4x10x32 .f32) (W2 W3 : FVec Ideal S4x4x32x32 .f32) (W4 : FVec Ideal S4x4x32x10 .f32) (l s : Fin 4)
    (h : Fin 10 → EReal) : Fin 10 → EReal :=
  apply W4 l s fun j => siluE (apply W3 l s (fun j => siluE (apply W2 l s (fun j => siluE (apply W1 l s h j)) j)) j)

/-- The scaled radius of an atom. -/
def scaledE (r : EReal) : EReal := Ideal.div r (Ideal.ofBits .f32 0x40A00000#32)

/-- The reference's result at `(l, n, k)`, by the sine `f`: the network of atom `n`'s species, and zero for a species that is none of the four. -/
def refE (f : EReal → EReal) (r : FVec Ideal S160000 .f32) (sp : IVec S160000 32) (W1 : FVec Ideal S4x4x10x32 .f32) (W2 W3 : FVec Ideal S4x4x32x32 .f32)
    (W4 : FVec Ideal S4x4x32x10 .f32) (l : Fin 4) (n : Fin 160000) (k : Fin 10) : EReal :=
  let y (s : Fin 4) := mlpE W1 W2 W3 W4 l s
    (fun j => waveE f l (Ideal.ofBits .f32 (lit0 (S4x10.rowMajor (ix2 l j)))) (scaledE (r (ix1 n)))) k
  if sp (ix1 n) = 3#32 then y 3 else if sp (ix1 n) = 2#32 then y 2 else if sp (ix1 n) = 1#32 then y 1
  else if sp (ix1 n) = 0#32 then y 0 else 0

/-- One species' weights cut out of the stack, read at an entry. -/
theorem cut_apply (K N s : ℕ) (hs : s < 4) (W : FVec Ideal ⟨4, ![4, 4, K, N]⟩ .f32)
    (h : (⟨4, ![4, 4, K, N]⟩ : Shape).Slices ![0, s, 0, 0] ⟨4, ![4, 1, K, N]⟩)
    (hc : (⟨4, ![4, 1, K, N]⟩ : Shape).ShapeCasts ⟨3, ![4, K, N]⟩) (l : Fin 4) (j : Fin K) (k : Fin N) :
    shapeCast (⟨3, ![4, K, N]⟩ : Shape) (extractStridedSlice ⟨4, ![4, 1, K, N]⟩ ![0, s, 0, 0] W h) hc (ix3 l j k) = W (ix4 l ⟨s, hs⟩ j k) := by
  have e : Shape.reshapeEquiv hc (ix3 l j k) = ix4 l 0 j k :=
    Shape.reshapeEquiv_eq_of_rowMajor _ (by
      rw [rowMajor_val4 (d := ![4, 1, K, N]) _ (1 * (K * N)) (K * N) N rfl rfl rfl, rowMajor_val3 (d := ![4, K, N]) _ (K * N) N rfl rfl]; simp)
  unfold shapeCast
  rw [e]
  refine congrArg W (funext fun b => Fin.ext ?_)
  match b with
  | ⟨0, _⟩ => simp
  | ⟨1, _⟩ => simp
  | ⟨2, _⟩ => simp
  | ⟨3, _⟩ => simp

theorem first_apply (s : ℕ) (hs : s < 4) (A : FVec Ideal S4x160000x10 .f32) (W : FVec Ideal S4x4x10x32 .f32)
    (h : S4x4x10x32.Slices ![0, s, 0, 0] S4x1x10x32) (l : Fin 4) (n : Fin 160000) (k : Fin 32) :
    Host.dotGeneral dot_S4x160000x10_S4x10x32_S4x160000x32_2_1_1_2_0_0 none A
      (shapeCast S4x10x32 (extractStridedSlice S4x1x10x32 ![0, s, 0, 0] W h) shapeCasts_S4x1x10x32_S4x10x32) (ix3 l n k) =
      apply W l ⟨s, hs⟩ (fun j => A (ix3 l n j)) k := by
  pointwise [apply, cut_apply 10 32 s hs W h]

/-- `silu` of an array as the reference spells it. -/
def silu (A : FVec Ideal S4x160000x32 .f32) : FVec Ideal S4x160000x32 .f32 :=
  mulf A (Host.divf (broadcastInDim S4x160000x32 ![] bcast_S_S4x160000x32 (constant S_ .f32 0x3F800000#32))
    (addf (broadcastInDim S4x160000x32 ![] bcast_S_S4x160000x32 (constant S_ .f32 0x3F800000#32)) (Host.exp (Host.negf A))))

theorem silu_apply (A : FVec Ideal S4x160000x32 .f32) (i : S4x160000x32.Idx) : silu A i = siluE (A i) := by
  pointwise [silu, siluE]

theorem hidden_apply (s : ℕ) (hs : s < 4) (A : FVec Ideal S4x160000x32 .f32) (W : FVec Ideal S4x4x32x32 .f32)
    (h : S4x4x32x32.Slices ![0, s, 0, 0] S4x1x32x32) (l : Fin 4) (n : Fin 160000) (k : Fin 32) :
    Host.dotGeneral dot_S4x160000x32_S4x32x32_S4x160000x32_2_1_1_2_0_0 none (silu A)
      (shapeCast S4x32x32 (extractStridedSlice S4x1x32x32 ![0, s, 0, 0] W h) shapeCasts_S4x1x32x32_S4x32x32) (ix3 l n k) =
      apply W l ⟨s, hs⟩ (fun j => siluE (A (ix3 l n j))) k := by
  pointwise [apply, cut_apply 32 32 s hs W h, silu_apply]

theorem last_apply (s : ℕ) (hs : s < 4) (A : FVec Ideal S4x160000x32 .f32) (W : FVec Ideal S4x4x32x10 .f32)
    (h : S4x4x32x10.Slices ![0, s, 0, 0] S4x1x32x10) (l : Fin 4) (n : Fin 160000) (k : Fin 10) :
    Host.dotGeneral dot_S4x160000x32_S4x32x10_S4x160000x10_2_1_1_2_0_0 none (silu A)
      (shapeCast S4x32x10 (extractStridedSlice S4x1x32x10 ![0, s, 0, 0] W h) shapeCasts_S4x1x32x10_S4x32x10) (ix3 l n k) =
      apply W l ⟨s, hs⟩ (fun j => siluE (A (ix3 l n j))) k := by
  pointwise [apply, cut_apply 32 10 s hs W h, silu_apply]

/-- One of the reference's four selections: `x` where the species is `b`, else `y`. -/
def pick (b : BitVec 32) (sp : IVec S160000 32) (x y : FVec Ideal S4x160000x10 .f32) : FVec Ideal S4x160000x10 .f32 :=
  select (broadcastInDim S4x160000x10 ![0, 1, 2] bcast_S1x160000x1_S4x160000x10_0_1_2 (broadcastInDim S1x160000x1 ![1] bcast_S160000_S1x160000x1_1
    (cmpi .eq sp (broadcastInDim S160000 ![] bcast_S_S160000 (constantI S_ 32 b))))) x y

theorem pick_apply (b : BitVec 32) (sp : IVec S160000 32) (x y : FVec Ideal S4x160000x10 .f32) (l : Fin 4) (n : Fin 160000) (k : Fin 10) :
    pick b sp x y (ix3 l n k) = if sp (ix1 n) = b then x (ix3 l n k) else y (ix3 l n k) := by
  pointwise [pick]
  by_cases h : sp (ix1 n) = b
  · simp [Scalar.select, IntOp.cmpi, h]
  · simp [Scalar.select, IntOp.cmpi, h, beq_false_of_ne h]

/-- One species' whole network the way the reference writes it, on basis values `B`. -/
theorem mlp_apply (f : EReal → EReal) (s : ℕ) (hs : s < 4) (B : FVec Ideal S4x160000x10 .f32) (r : FVec Ideal S160000 .f32)
    (W1 : FVec Ideal S4x4x10x32 .f32) (W2 W3 : FVec Ideal S4x4x32x32 .f32) (W4 : FVec Ideal S4x4x32x10 .f32)
    (hB : ∀ l n j, B (ix3 l n j) = waveE f l (Ideal.ofBits .f32 (lit0 (S4x10.rowMajor (ix2 l j)))) (scaledE (r (ix1 n))))
    (h2 : S4x4x10x32.Slices ![0, s, 0, 0] S4x1x10x32) (h3 h4 : S4x4x32x32.Slices ![0, s, 0, 0] S4x1x32x32)
    (h5 : S4x4x32x10.Slices ![0, s, 0, 0] S4x1x32x10) (l : Fin 4) (n : Fin 160000) (k : Fin 10) :
    Host.dotGeneral dot_S4x160000x32_S4x32x10_S4x160000x10_2_1_1_2_0_0 none (silu
      (Host.dotGeneral dot_S4x160000x32_S4x32x32_S4x160000x32_2_1_1_2_0_0 none (silu
        (Host.dotGeneral dot_S4x160000x32_S4x32x32_S4x160000x32_2_1_1_2_0_0 none (silu
          (Host.dotGeneral dot_S4x160000x10_S4x10x32_S4x160000x32_2_1_1_2_0_0 none B
            (shapeCast S4x10x32 (extractStridedSlice S4x1x10x32 ![0, s, 0, 0] W1 h2) shapeCasts_S4x1x10x32_S4x10x32)))
          (shapeCast S4x32x32 (extractStridedSlice S4x1x32x32 ![0, s, 0, 0] W2 h3) shapeCasts_S4x1x32x32_S4x32x32)))
        (shapeCast S4x32x32 (extractStridedSlice S4x1x32x32 ![0, s, 0, 0] W3 h4) shapeCasts_S4x1x32x32_S4x32x32)))
      (shapeCast S4x32x10 (extractStridedSlice S4x1x32x10 ![0, s, 0, 0] W4 h5) shapeCasts_S4x1x32x10_S4x32x10) (ix3 l n k) =
      mlpE W1 W2 W3 W4 l ⟨s, hs⟩
        (fun j => waveE f l (Ideal.ofBits .f32 (lit0 (S4x10.rowMajor (ix2 l j)))) (scaledE (r (ix1 n)))) k := by
  simp only [last_apply s hs, hidden_apply s hs, first_apply s hs, hB, mlpE]

/-- The four selections on the four networks are the reference's result. -/
theorem result_apply (f : EReal → EReal) (r : FVec Ideal S160000 .f32) (sp : IVec S160000 32) (W1 : FVec Ideal S4x4x10x32 .f32)
    (W2 W3 : FVec Ideal S4x4x32x32 .f32) (W4 : FVec Ideal S4x4x32x10 .f32) (y : Fin 4 → FVec Ideal S4x160000x10 .f32)
    (hy : ∀ (s : Fin 4) l n k, y s (ix3 l n k) = mlpE W1 W2 W3 W4 l s
      (fun j => waveE f l (Ideal.ofBits .f32 (lit0 (S4x10.rowMajor (ix2 l j)))) (scaledE (r (ix1 n)))) k) :
    pick 3#32 sp (y 3) (pick 2#32 sp (y 2) (pick 1#32 sp (y 1) (pick 0#32 sp (y 0)
      (broadcastInDim S4x160000x10 ![] bcast_S_S4x160000x10 (constant S_ .f32 0x00000000#32))))) =
      fun j : S4x160000x10.Idx => refE f r sp W1 W2 W3 W4 (j 0) (j 1) (j 2) := by
  funext j
  obtain ⟨l, n, k, rfl⟩ : ∃ (l : Fin 4) (n : Fin 160000) (k : Fin 10), j = ix3 l n k := ⟨j 0, j 1, j 2, eq_ix3 j⟩
  simp only [pick_apply, hy]
  pointwise [refE]

section run

variable (m : (ℓ : Loc nD τ sig) → Buf (Elt Ideal) ℓ)

abbrev argR (c : Dev nD) : FVec Ideal S160000 .f32 := m ((c.tc : Thread nD τ).loc main_arg0)
abbrev argS (c : Dev nD) : IVec S160000 32 := m ((c.tc : Thread nD τ).loc main_arg1)
abbrev argW1 (c : Dev nD) : FVec Ideal S4x4x10x32 .f32 := m ((c.tc : Thread nD τ).loc main_arg2)
abbrev argW2 (c : Dev nD) : FVec Ideal S4x4x32x32 .f32 := m ((c.tc : Thread nD τ).loc main_arg3)
abbrev argW3 (c : Dev nD) : FVec Ideal S4x4x32x32 .f32 := m ((c.tc : Thread nD τ).loc main_arg4)
abbrev argW4 (c : Dev nD) : FVec Ideal S4x4x32x10 .f32 := m ((c.tc : Thread nD τ).loc main_arg5)

/-- The basis values the reference computes. -/
theorem wave_apply (V0 : Valuation τ sig (Elt Ideal)) (l : Fin 4) (n : Fin 160000) (j : Fin 10) :
    (res_main_v80 V0 : FVec Ideal S4x160000x10 .f32) (ix3 l n j) =
      waveE quarterE l (Ideal.ofBits .f32 (lit0 (S4x10.rowMajor (ix2 l j)))) (scaledE ((V0 (Proc.devRef .tc main_arg0) : FVec Ideal S160000 .f32) (ix1 n))) := by
  have hx l n j : (res_main_v6 V0 : FVec Ideal S4x160000x10 .f32) (ix3 l n j) = Ideal.ofBits .f32 (lit0 (S4x10.rowMajor (ix2 l j))) *
      scaledE ((V0 (Proc.devRef .tc main_arg0) : FVec Ideal S160000 .f32) (ix1 n)) := by
    pointwise [res_main_v6, res_main_v1, scaledE]
  have ht l n j : (res_main_v20 V0 : FVec Ideal S4x160000x10 .f32) (ix3 l n j) = turnsE ((res_main_v6 V0 : FVec Ideal S4x160000x10 .f32) (ix3 l n j)) := by
    pointwise [res_main_v20, turnsE]
  have hy l n j : (res_main_v23 V0 : FVec Ideal S4x160000x10 .f32) (ix3 l n j) = restE ((res_main_v6 V0 : FVec Ideal S4x160000x10 .f32) (ix3 l n j)) := by
    pointwise [res_main_v23, ht, restE]
  have ho l n j : (res_main_v41 V0 : FVec Ideal S4x160000x10 .f32) (ix3 l n j) = oddE ((res_main_v23 V0 : FVec Ideal S4x160000x10 .f32) (ix3 l n j)) := by
    pointwise [res_main_v41, res_main_v29, res_main_v35, oddE]
  have he l n j : (res_main_v57 V0 : FVec Ideal S4x160000x10 .f32) (ix3 l n j) = evenE ((res_main_v23 V0 : FVec Ideal S4x160000x10 .f32) (ix3 l n j)) := by
    pointwise [res_main_v57, res_main_v47, res_main_v52, evenE]
  have hq l n j : (res_main_v63 V0 : FVec Ideal S4x160000x10 .f32) (ix3 l n j) = turnsE ((res_main_v6 V0 : FVec Ideal S4x160000x10 .f32) (ix3 l n j)) -
      Ideal.ofBits .f32 0x40800000#32 * Ideal.liftRound Int.floor
        (Ideal.div (turnsE ((res_main_v6 V0 : FVec Ideal S4x160000x10 .f32) (ix3 l n j))) (Ideal.ofBits .f32 0x40800000#32)) := by
    pointwise [res_main_v63, ht]
  fin_cases l <;>
    · clean_types
      pointwise [res_main_v80, ho, he, hq, res_main_v1, waveE, powE, quarterE, chooseE]
      rw [hy, hx]
      try rfl

/-- The reference runs, leaves its arguments as they were and its result at `refE`. -/
theorem run_eq (ρ : Dev nD → PrngReg) : θ_run defs (onTc (τ := τ) (main (F := Ideal))) ⟨m, fun _ => 0, ρ⟩ fun r => ∀ c : Dev nD,
      r.2.mem ((c.tc : Thread nD τ).loc main_v157) = (fun j : S4x160000x10.Idx =>
        refE quarterE (argR m c) (argS m c) (argW1 m c) (argW2 m c) (argW3 m c) (argW4 m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  have y (s : ℕ) (hs : s < 4) h2 h3 h4 h5 := mlp_apply quarterE s hs (res_main_v80 (launchContents m c)) (argR m c) (argW1 m c) (argW2 m c)
    (argW3 m c) (argW4 m c) (wave_apply _) h2 h3 h4 h5
  refine result_apply quarterE (argR m c) (argS m c) (argW1 m c) (argW2 m c) (argW3 m c) (argW4 m c) ![_, _, _, _] fun s => ?_
  fin_cases s
  · exact y 0 (by decide) _ _ _ _
  · exact y 1 (by decide) _ _ _ _
  · exact y 2 (by decide) _ _ _ _
  · exact y 3 (by decide) _ _ _ _

end run

end Cert.ReferenceIdeal.Net

end
-- ==== Proof.ReferenceSin.lean ====
/-
  The result of the reference on `sin`, over the extended reals, entry by entry as a function of the arguments.
-/
module

public import proofs.«01_k».proof.Proof.Gen.ReferenceSinIdeal.Run
public import proofs.«01_k».proof.Proof.Reference

@[expose] public section

set_option maxRecDepth 16384

noncomputable section

namespace Cert.ReferenceSinIdeal.Net

open Cert.ReferenceSinIdeal Cert.ReferenceSinIdeal.Gen Cert.ReferenceSinIdeal.Value Idealize.ShloMosaic Idealize.ShloMosaic.StableHlo Idealize.SL.Sem
open Cert.ReferenceIdeal.Net (waveE scaledE powE refE mlp_apply result_apply)

variable (m : (ℓ : Loc nD τ sig) → Buf (Elt Ideal) ℓ)

abbrev argR (c : Dev nD) : FVec Ideal S160000 .f32 := m ((c.tc : Thread nD τ).loc main_arg0)
abbrev argS (c : Dev nD) : IVec S160000 32 := m ((c.tc : Thread nD τ).loc main_arg1)
abbrev argW1 (c : Dev nD) : FVec Ideal S4x4x10x32 .f32 := m ((c.tc : Thread nD τ).loc main_arg2)
abbrev argW2 (c : Dev nD) : FVec Ideal S4x4x32x32 .f32 := m ((c.tc : Thread nD τ).loc main_arg3)
abbrev argW3 (c : Dev nD) : FVec Ideal S4x4x32x32 .f32 := m ((c.tc : Thread nD τ).loc main_arg4)
abbrev argW4 (c : Dev nD) : FVec Ideal S4x4x32x10 .f32 := m ((c.tc : Thread nD τ).loc main_arg5)

/-- The basis values the reference computes. -/
theorem wave_apply (V0 : Valuation τ sig (Elt Ideal)) (l : Fin 4) (n : Fin 160000) (j : Fin 10) :
    (res_main_v22 V0 : FVec Ideal S4x160000x10 .f32) (ix3 l n j) =
      waveE Ideal.sin l (Ideal.ofBits .f32 (lit0 (S4x10.rowMajor (ix2 l j)))) (scaledE ((V0 (Proc.devRef .tc main_arg0) : FVec Ideal S160000 .f32) (ix1 n))) := by
  fin_cases l <;>
    · clean_types
      pointwise [res_main_v22, res_main_v6, res_main_v1, waveE, scaledE, powE]

/-- The reference runs, leaves its arguments as they were and its result at `refE`. -/
theorem run_eq (ρ : Dev nD → PrngReg) : θ_run defs (onTc (τ := τ) (main (F := Ideal))) ⟨m, fun _ => 0, ρ⟩ fun r => ∀ c : Dev nD,
      r.2.mem ((c.tc : Thread nD τ).loc main_v99) = (fun j : S4x160000x10.Idx =>
        refE Ideal.sin (argR m c) (argS m c) (argW1 m c) (argW2 m c) (argW3 m c) (argW4 m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  have y (s : ℕ) (hs : s < 4) h2 h3 h4 h5 := mlp_apply Ideal.sin s hs (res_main_v22 (launchContents m c)) (argR m c) (argW1 m c) (argW2 m c)
    (argW3 m c) (argW4 m c) (wave_apply _) h2 h3 h4 h5
  refine result_apply Ideal.sin (argR m c) (argS m c) (argW1 m c) (argW2 m c) (argW3 m c) (argW4 m c) ![_, _, _, _] fun s => ?_
  fin_cases s
  · exact y 0 (by decide) _ _ _ _
  · exact y 1 (by decide) _ _ _ _
  · exact y 2 (by decide) _ _ _ _
  · exact y 3 (by decide) _ _ _ _

end Cert.ReferenceSinIdeal.Net

end
-- ==== Proof.Facts.lean ====
/-
  Facts about the numbers themselves: the words of the tables, the two gates, and sums over blocks.
-/
module

public import proofs.«01_k».proof.Proof.Array
public import proofs.«01_k».proof.Proof.Reference

@[expose] public section

set_option maxRecDepth 16384

noncomputable section

namespace Cert.Rows

open Idealize.ShloMosaic Cert.KernelIdeal.Net Cert.ReferenceIdeal.Net

/-! ## Words -/

/-- The float words of 0, 1, 2, 3. -/
def small : Fin 4 → BitVec 32 := ![0x00000000#32, 0x3F800000#32, 0x40000000#32, 0x40400000#32]

theorem small_value (s : Fin 4) : Ideal.ofBits .f32 (small s) = (((s.val : ℕ) : ℝ) : EReal) := by
  fin_cases s <;> simp [small, Ideal.ofBits, Ideal.ieee, -EReal.coe_mul] <;> norm_num

theorem half_value : half = ((1 / 2 : ℝ) : EReal) := by
  simp [half, Ideal.ofBits, Ideal.ieee, -EReal.coe_mul]; norm_num

theorem sixteen_value : Ideal.ofBits .f32 0x41800000#32 = ((16 : ℝ) : EReal) := by
  simp [Ideal.ofBits, Ideal.ieee, -EReal.coe_mul]; norm_num

theorem sixteenth_value : Ideal.ofBits .f32 0x3D800000#32 = ((1 / 16 : ℝ) : EReal) := by
  simp [Ideal.ofBits, Ideal.ieee, -EReal.coe_mul]; norm_num

theorem five_value : Ideal.ofBits .f32 0x40A00000#32 = ((5 : ℝ) : EReal) := by
  simp [Ideal.ofBits, Ideal.ieee, -EReal.coe_mul]; norm_num

theorem inf_value : Ideal.ofBits .f32 0x7F800000#32 = ⊤ := by
  simp [Ideal.ofBits, Ideal.ieee]

/-- The least radius admitted is `8796093 / 2⁴²`. -/
theorem least_value : Ideal.ofBits .f32 0x360637BD#32 = ((8796093 / 2 ^ 42 : ℝ) : EReal) := by
  simp [Ideal.ofBits, Ideal.ieee, -EReal.coe_mul]; norm_num

/-- The reference's floor under the sine's argument is `8796093 / 2⁴³`. -/
theorem floor_value : Ideal.ofBits .f32 0x358637BD#32 = ((8796093 / 2 ^ 43 : ℝ) : EReal) := by
  simp [Ideal.ofBits, Ideal.ieee, -EReal.coe_mul]; norm_num

/-- A positive normal word whose bits say that it is at least 3. -/
def AtLeastThree (w : BitVec 32) : Prop :=
  w.extractLsb' 31 1 = 0#1 ∧ (w.extractLsb' 23 8).toNat ≠ 255 ∧ (w.extractLsb' 23 8).toNat ≠ 0 ∧
    3 * 2 ^ 150 ≤ (2 ^ 23 + (w.extractLsb' 0 23).toNat) * 2 ^ (w.extractLsb' 23 8).toNat

instance (w : BitVec 32) : Decidable (AtLeastThree w) := by unfold AtLeastThree; infer_instance

theorem three_le {w : BitVec 32} (h : AtLeastThree w) : ∃ z : ℝ, Ideal.ofBits .f32 w = (z : EReal) ∧ 3 ≤ z := by
  obtain ⟨h1, h2, h3, h4⟩ := h
  refine ⟨((2 ^ 23 + (w.extractLsb' 0 23).toNat : ℕ) : ℝ) * (2 : ℝ) ^ (((w.extractLsb' 23 8).toNat : ℤ) - 127 - 23), ?_, ?_⟩
  · unfold Ideal.ofBits Ideal.ieee
    dsimp only
    rw [h1, if_neg (by simpa using h2), if_neg h3]
    norm_num
  · have e : (2 : ℝ) ^ (((w.extractLsb' 23 8).toNat : ℤ) - 127 - 23) = 2 ^ (w.extractLsb' 23 8).toNat / 2 ^ 150 := by
      rw [show ((w.extractLsb' 23 8).toNat : ℤ) - 127 - 23 = ((w.extractLsb' 23 8).toNat : ℤ) - (150 : ℕ) by push_cast; ring,
        zpow_sub₀ two_ne_zero, zpow_natCast, zpow_natCast]
    rw [e, ← mul_div_assoc, le_div_iff₀ (by positivity)]
    exact_mod_cast h4

/-- The two tables of wave numbers are one, each number at least 3. -/
theorem wave_word : ∀ i : Fin 40, Cert.KernelIdeal.lit0 ⟨i, by omega⟩ = Cert.ReferenceIdeal.lit0 i ∧ AtLeastThree (Cert.ReferenceIdeal.lit0 i) := by
  decide +kernel

theorem power_word : ∀ i : Fin 40, Cert.KernelIdeal.lit0 ⟨128 + i, by omega⟩ = small ⟨i / 10, by omega⟩ := by decide +kernel

theorem species_word : ∀ i : Fin 128, Cert.KernelIdeal.lit0 ⟨256 + i, by omega⟩ = small ⟨i / 32, by omega⟩ := by decide +kernel

/-! ## Gates -/

/-- `x / (1 + e⁻ˣ)`. -/
def silu (x : ℝ) : ℝ := x * (1 + Real.exp (-x))⁻¹

theorem siluE_coe (x : ℝ) : siluE x = silu x := by
  have h : (1 + Real.exp (-x)) ≠ 0 := by positivity
  unfold siluE silu
  rw [Ideal.ofBits_one_f32, show Ideal.exp (-(x : EReal)) = ((Real.exp (-x) : ℝ) : EReal) from rfl,
    show (1 : EReal) + ((Real.exp (-x) : ℝ) : EReal) = ((1 + Real.exp (-x) : ℝ) : EReal) by push_cast; rfl, Ideal.div_coe h, one_mul]
  push_cast [one_div]; rfl

/-- Half the argument, gated by `tanh`, is the whole argument gated by the logistic. -/
theorem gateE_half (x : ℝ) : gateE ((1 / 2 * x : ℝ) : EReal) = silu x := by
  unfold gateE silu
  rw [show Ideal.tanh ((1 / 2 * x : ℝ) : EReal) = ((Real.tanh (1 / 2 * x) : ℝ) : EReal) from rfl, ← EReal.coe_mul, ← EReal.coe_add]
  congr 1
  have e : Real.exp (-x) = Real.exp (-(1 / 2 * x)) * Real.exp (-(1 / 2 * x)) := by rw [← Real.exp_add]; congr 1; ring
  have p : Real.exp (1 / 2 * x) * Real.exp (-(1 / 2 * x)) = 1 := by rw [← Real.exp_add]; simp
  have a := Real.exp_pos (1 / 2 * x)
  have b := Real.exp_pos (-(1 / 2 * x))
  rw [Real.tanh_eq_sinh_div_cosh, Real.sinh_eq, Real.cosh_eq, e]
  generalize Real.exp (1 / 2 * x) = u at *
  generalize Real.exp (-(1 / 2 * x)) = v at *
  field_simp
  linear_combination (2 * x * v) * p

theorem gateE_zero : gateE 0 = 0 := by unfold gateE; simp

/-! ## Sums over one block -/

/-- A sum over `A` blocks of `B` that is zero outside block `a`. -/
theorem block_sum (A B : ℕ) (a : Fin A) (f : Fin (A * B) → EReal) (g : Fin B → EReal)
    (h0 : ∀ p : Fin (A * B), p.val / B ≠ a → f p = 0) (hg : ∀ (p : Fin (A * B)) (j : Fin B), p.val = a * B + j → f p = g j) :
    ∑ p, f p = ∑ j, g j := by
  rw [← finProdFinEquiv.sum_comp, Fintype.sum_prod_type, Finset.sum_eq_single a]
  · exact Finset.sum_congr rfl fun j _ => hg _ j (by simp [finProdFinEquiv]; ring)
  · intro b _ hb
    refine Finset.sum_eq_zero fun j _ => h0 _ fun h => hb (Fin.ext ?_)
    rw [← h]
    simp only [finProdFinEquiv_apply_val]
    rw [Nat.add_mul_div_left _ _ (by have := j.isLt; omega), Nat.div_eq_of_lt j.isLt, zero_add]
  · simp

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

end Cert.Rows

end
-- ==== Proof.Sine.lean ====
/-
  The polynomial sine: the kernel's and the reference's are one function of a real number, and on the phases up to 120 it
  is within a hundred-thousandth of the sine.
-/
module

public import proofs.«01_k».proof.Proof.Facts
public import Mathlib.Analysis.SpecialFunctions.Trigonometric.Basic

@[expose] public section

set_option maxRecDepth 16384

noncomputable section

namespace Cert.Sine

open Idealize.ShloMosaic Cert.KernelIdeal.Net Cert.ReferenceIdeal.Net Cert.Rows

/-! ## The function of a real number -/

/-- The words of two over pi and of half pi. -/
def perTurn : ℝ := 10680707 / 2 ^ 24
@[inherit_doc perTurn] def turn : ℝ := 13176795 / 2 ^ 23

/-- The number of quarter turns. -/
def turns (x : ℝ) : ℤ := ⌊x * perTurn + 1 / 2⌋

/-- What is left after them. -/
def rest (x : ℝ) : ℝ := x - turns x * turn

def odd (y : ℝ) : ℝ := y - 11184811 / 2 ^ 26 * y ^ 3 + 8947846 / 2 ^ 30 * y ^ 5 - 13634563 / 2 ^ 36 * y ^ 7

def even (y : ℝ) : ℝ := 1 - 1 / 2 * y ^ 2 + 11184804 / 2 ^ 28 * y ^ 4 - 11929114 / 2 ^ 33 * y ^ 6

/-- The polynomial sine. -/
def quarter (x : ℝ) : ℝ :=
  if turns x % 4 = 0 then odd (rest x) else if turns x % 4 = 1 then even (rest x)
  else if turns x % 4 = 2 then -odd (rest x) else -even (rest x)

/-! ## Words -/

theorem perTurn_value : Ideal.ofBits .f32 0x3F22F983#32 = (perTurn : EReal) := by
  simp [perTurn, Ideal.ofBits, Ideal.ieee, -EReal.coe_mul]; norm_num

theorem turn_value : Ideal.ofBits .f32 0x3FC90FDB#32 = (turn : EReal) := by
  simp [turn, Ideal.ofBits, Ideal.ieee, -EReal.coe_mul]; norm_num

theorem four_value : Ideal.ofBits .f32 0x40800000#32 = ((4 : ℝ) : EReal) := by
  simp [Ideal.ofBits, Ideal.ieee, -EReal.coe_mul]; norm_num

theorem fourth_value : Ideal.ofBits .f32 0x3E800000#32 = ((1 / 4 : ℝ) : EReal) := by
  simp [Ideal.ofBits, Ideal.ieee, -EReal.coe_mul]; norm_num

theorem odd_words : Ideal.ofBits .f32 0x3E2AAAAB#32 = ((11184811 / 2 ^ 26 : ℝ) : EReal) ∧
    Ideal.ofBits .f32 0x3C088886#32 = ((8947846 / 2 ^ 30 : ℝ) : EReal) ∧ Ideal.ofBits .f32 0x39500C03#32 = ((13634563 / 2 ^ 36 : ℝ) : EReal) ∧
    Ideal.ofBits .f32 0xBE2AAAAB#32 = ((-(11184811 / 2 ^ 26) : ℝ) : EReal) ∧ Ideal.ofBits .f32 0xB9500C03#32 = ((-(13634563 / 2 ^ 36) : ℝ) : EReal) := by
  refine ⟨?_, ?_, ?_, ?_, ?_⟩ <;> simp [Ideal.ofBits, Ideal.ieee, -EReal.coe_mul, -EReal.coe_neg] <;> norm_num

theorem even_words : Ideal.ofBits .f32 0x3D2AAAA4#32 = ((11184804 / 2 ^ 28 : ℝ) : EReal) ∧
    Ideal.ofBits .f32 0x3AB6061A#32 = ((11929114 / 2 ^ 33 : ℝ) : EReal) ∧
    Ideal.ofBits .f32 0xBF000000#32 = ((-(1 / 2) : ℝ) : EReal) ∧ Ideal.ofBits .f32 0xBAB6061A#32 = ((-(11929114 / 2 ^ 33) : ℝ) : EReal) := by
  refine ⟨?_, ?_, ?_, ?_⟩ <;> simp [Ideal.ofBits, Ideal.ieee, -EReal.coe_mul, -EReal.coe_neg] <;> norm_num

/-! ## The two spellings -/

theorem floor_coe (x : ℝ) : Ideal.liftRound Int.floor (x : EReal) = (((⌊x⌋ : ℤ) : ℝ) : EReal) := rfl

/-- What is left of a whole number after the fours in it. -/
theorem sub_fours (n : ℤ) : (n : ℝ) - 4 * ((⌊(n : ℝ) * (1 / 4)⌋ : ℤ) : ℝ) = ((n % 4 : ℤ) : ℝ) := by
  have h : ⌊(n : ℝ) * (1 / 4)⌋ = n / 4 := by
    rw [Int.floor_eq_iff]
    have a : (4 * (n / 4) : ℤ) ≤ n := by omega
    have b : n < (4 * (n / 4) + 4 : ℤ) := by omega
    have a' : (4 * ((n / 4 : ℤ) : ℝ)) ≤ n := by exact_mod_cast a
    have b' : (n : ℝ) < 4 * ((n / 4 : ℤ) : ℝ) + 4 := by exact_mod_cast b
    constructor <;> linarith
  rw [h]
  have e : n % 4 = n - 4 * (n / 4) := by omega
  rw [e]; push_cast; ring

theorem turnsE_coe (x : ℝ) : turnsE (x : EReal) = ((turns x : ℝ) : EReal) := by
  unfold turnsE turns
  rw [perTurn_value, show Ideal.ofBits .f32 0x3F000000#32 = ((1 / 2 : ℝ) : EReal) from half_value, ← EReal.coe_mul, ← EReal.coe_add, floor_coe]

theorem restE_coe (x : ℝ) : restE (x : EReal) = (rest x : EReal) := by
  unfold restE rest
  rw [turnsE_coe, turn_value, ← EReal.coe_mul, ← EReal.coe_sub]

theorem oddE_coe (y : ℝ) : oddE (y : EReal) = (odd y : EReal) := by
  unfold oddE odd
  obtain ⟨w3, w5, w7, -, -⟩ := odd_words
  rw [w3, w5, w7]
  simp only [← EReal.coe_mul, ← EReal.coe_sub, ← EReal.coe_add]
  exact congrArg _ (by ring)

theorem evenE_coe (y : ℝ) : evenE (y : EReal) = (even y : EReal) := by
  unfold evenE even
  obtain ⟨w4, w6, -, -⟩ := even_words
  rw [w4, w6, show Ideal.ofBits .f32 0x3F000000#32 = ((1 / 2 : ℝ) : EReal) from half_value,
    show Ideal.ofBits .f32 0x3F800000#32 = ((1 : ℝ) : EReal) by simp]
  simp only [← EReal.coe_mul, ← EReal.coe_sub, ← EReal.coe_add]
  exact congrArg _ (by ring)

/-- The reference's sine of a real number. -/
theorem quarterE_coe (x : ℝ) : quarterE (x : EReal) = (quarter x : EReal) := by
  have h0 : Ideal.ofBits .f32 0x00000000#32 = (((0 : ℤ) : ℝ) : EReal) := by simpa [small] using small_value 0
  have h1 : Ideal.ofBits .f32 0x3F800000#32 = (((1 : ℤ) : ℝ) : EReal) := by simpa [small] using small_value 1
  have h2 : Ideal.ofBits .f32 0x40000000#32 = (((2 : ℤ) : ℝ) : EReal) := by simpa [small] using small_value 2
  unfold quarterE chooseE quarter
  rw [turnsE_coe, restE_coe, oddE_coe, evenE_coe, four_value, Ideal.div_coe (by norm_num), ← EReal.coe_mul, floor_coe, ← EReal.coe_mul,
    ← EReal.coe_sub, sub_fours, h0, h1, h2]
  simp only [EReal.coe_eq_coe_iff, Int.cast_inj, ← EReal.coe_neg]
  split_ifs <;> rfl

/-- The kernel's sine of a real number. -/
theorem turnedE_coe (x : ℝ) : turnedE (x : EReal) = (quarter x : EReal) := by
  have h1 : (1 : EReal) = (((1 : ℤ) : ℝ) : EReal) := by simp
  have h2 : Ideal.ofBits .f32 0x40000000#32 = (((2 : ℤ) : ℝ) : EReal) := by simpa [small] using small_value 2
  have h3 : Ideal.ofBits .f32 0x40400000#32 = (((3 : ℤ) : ℝ) : EReal) := by simpa [small] using small_value 3
  have ht : Ideal.liftRound Int.floor ((x : EReal) * Ideal.ofBits .f32 0x3F22F983#32 + Ideal.ofBits .f32 0x3F000000#32) =
      ((turns x : ℝ) : EReal) := turnsE_coe x
  have hy : (x : EReal) - ((turns x : ℝ) : EReal) * Ideal.ofBits .f32 0x3FC90FDB#32 = (rest x : EReal) := by
    rw [turn_value, ← EReal.coe_mul, ← EReal.coe_sub]; rfl
  have hq : ((turns x : ℝ) : EReal) - Ideal.ofBits .f32 0x40800000#32 *
      Ideal.liftRound Int.floor (((turns x : ℝ) : EReal) * Ideal.ofBits .f32 0x3E800000#32) = (((turns x % 4 : ℤ) : ℝ) : EReal) := by
    rw [four_value, fourth_value, ← EReal.coe_mul, floor_coe, ← EReal.coe_mul, ← EReal.coe_sub, sub_fours]
  unfold turnedE byQuarterE quarter
  dsimp only
  rw [ht, hy, hq]
  obtain ⟨-, w5, -, w3, w7⟩ := odd_words
  obtain ⟨w4, -, w2, w6⟩ := even_words
  rw [w2, w3, w4, w5, w6, w7]
  generalize rest x = y
  have hs : (y : EReal) * (1 + y * y * (((-(11184811 / 2 ^ 26) : ℝ) : EReal) + y * y * (((8947846 / 2 ^ 30 : ℝ) : EReal) +
      y * y * ((-(13634563 / 2 ^ 36) : ℝ) : EReal)))) = (odd y : EReal) := by
    rw [h1]
    simp only [← EReal.coe_mul, ← EReal.coe_add]
    exact congrArg _ (by unfold odd; push_cast; ring)
  have hc : (1 : EReal) + y * y * (((-(1 / 2) : ℝ) : EReal) + y * y * (((11184804 / 2 ^ 28 : ℝ) : EReal) +
      y * y * ((-(11929114 / 2 ^ 33) : ℝ) : EReal))) = (even y : EReal) := by
    rw [h1]
    simp only [← EReal.coe_mul, ← EReal.coe_add]
    exact congrArg _ (by unfold even; push_cast; ring)
  rw [hs, hc, h1, h2, h3]
  simp only [EReal.coe_eq_coe_iff, EReal.coe_le_coe_iff, Int.cast_inj, Int.cast_le, zero_sub, ← EReal.coe_neg]
  have l := Int.emod_nonneg (turns x) (by norm_num : (4 : ℤ) ≠ 0)
  have u := Int.emod_lt_of_pos (turns x) (by norm_num : (0 : ℤ) < 4)
  generalize turns x % 4 = q at l u ⊢
  interval_cases q <;> simp

/-! ## Beside the sine -/

/-- Both Taylor polynomials up to the seventh power. -/
theorem taylor (y : ℝ) (hy : |y| ≤ 7854 / 10000) :
    |Real.cos y - (1 - y ^ 2 / 2 + y ^ 4 / 24 - y ^ 6 / 720)| ≤ 405 / 10 ^ 8 ∧
      |Real.sin y - (y - y ^ 3 / 6 + y ^ 5 / 120 - y ^ 7 / 5040)| ≤ 405 / 10 ^ 8 := by
  have hn : ‖(y : ℂ) * Complex.I‖ = |y| := by simp
  have b := Complex.exp_bound (x := (y : ℂ) * Complex.I) (by rw [hn]; linarith) (n := 8) (by norm_num)
  rw [hn] at b
  have e : Complex.exp ((y : ℂ) * Complex.I) - ∑ m ∈ Finset.range 8, ((y : ℂ) * Complex.I) ^ m / (m.factorial : ℂ) =
      ((Real.cos y - (1 - y ^ 2 / 2 + y ^ 4 / 24 - y ^ 6 / 720) : ℝ) : ℂ) +
        ((Real.sin y - (y - y ^ 3 / 6 + y ^ 5 / 120 - y ^ 7 / 5040) : ℝ) : ℂ) * Complex.I := by
    have i2 : Complex.I ^ 2 = -1 := Complex.I_sq
    have i3 : Complex.I ^ 3 = -Complex.I := Complex.I_pow_three
    have i4 : Complex.I ^ 4 = 1 := Complex.I_pow_four
    have i5 : Complex.I ^ 5 = Complex.I := by rw [pow_succ, i4, one_mul]
    have i6 : Complex.I ^ 6 = -1 := by rw [pow_succ, i5, ← sq, i2]
    have i7 : Complex.I ^ 7 = -Complex.I := by rw [pow_succ, i6, neg_one_mul]
    rw [Complex.exp_mul_I, ← Complex.ofReal_cos, ← Complex.ofReal_sin]
    simp only [Finset.sum_range_succ, Finset.sum_range_zero, Nat.factorial, mul_pow, i2, i3, i4, i5, i6, i7]
    push_cast
    ring
  rw [e] at b
  have hb : |y| ^ 8 * (((8 : ℕ).succ : ℝ) * (((8 : ℕ).factorial : ℝ) * ((8 : ℕ) : ℝ))⁻¹) ≤ 405 / 10 ^ 8 := by
    have p : |y| ^ 8 ≤ (7854 / 10000) ^ 8 := pow_le_pow_left₀ (abs_nonneg y) hy 8
    have f : (((8 : ℕ).succ : ℝ) * (((8 : ℕ).factorial : ℝ) * ((8 : ℕ) : ℝ))⁻¹) = 9 / 322560 := by
      norm_num [Nat.factorial]
    rw [f]
    refine (mul_le_mul_of_nonneg_right p (by norm_num)).trans ?_
    norm_num
  have b' := b.trans hb
  constructor
  · refine le_trans ?_ b'
    refine le_trans (le_of_eq ?_) (Complex.abs_re_le_norm _)
    simp [-Complex.ofReal_sub, -Complex.ofReal_cos, -Complex.ofReal_sin]
  · refine le_trans ?_ b'
    refine le_trans (le_of_eq ?_) (Complex.abs_im_le_norm _)
    simp [-Complex.ofReal_sub, -Complex.ofReal_cos, -Complex.ofReal_sin]

/-- The cosine's Taylor polynomial up to the tenth power. -/
theorem taylor_ten (y : ℝ) (hy : |y| ≤ 7854 / 10000) :
    |Real.cos y - (1 - y ^ 2 / 2 + y ^ 4 / 24 - y ^ 6 / 720 + y ^ 8 / 40320 - y ^ 10 / 3628800)| ≤ 13 / 10 ^ 11 := by
  have hn : ‖(y : ℂ) * Complex.I‖ = |y| := by simp
  have b := Complex.exp_bound (x := (y : ℂ) * Complex.I) (by rw [hn]; linarith) (n := 12) (by norm_num)
  rw [hn] at b
  have e : Complex.exp ((y : ℂ) * Complex.I) - ∑ m ∈ Finset.range 12, ((y : ℂ) * Complex.I) ^ m / (m.factorial : ℂ) =
      ((Real.cos y - (1 - y ^ 2 / 2 + y ^ 4 / 24 - y ^ 6 / 720 + y ^ 8 / 40320 - y ^ 10 / 3628800) : ℝ) : ℂ) +
        ((Real.sin y - (y - y ^ 3 / 6 + y ^ 5 / 120 - y ^ 7 / 5040 + y ^ 9 / 362880 - y ^ 11 / 39916800) : ℝ) : ℂ) * Complex.I := by
    have i2 : Complex.I ^ 2 = -1 := Complex.I_sq
    have i3 : Complex.I ^ 3 = -Complex.I := Complex.I_pow_three
    have i4 : Complex.I ^ 4 = 1 := Complex.I_pow_four
    have i5 : Complex.I ^ 5 = Complex.I := by rw [pow_succ, i4, one_mul]
    have i6 : Complex.I ^ 6 = -1 := by rw [pow_succ, i5, ← sq, i2]
    have i7 : Complex.I ^ 7 = -Complex.I := by rw [pow_succ, i6, neg_one_mul]
    have i8 : Complex.I ^ 8 = 1 := by rw [show 8 = 4 + 4 from rfl, pow_add, i4, one_mul]
    have i9 : Complex.I ^ 9 = Complex.I := by rw [pow_succ, i8, one_mul]
    have i10 : Complex.I ^ 10 = -1 := by rw [pow_succ, i9, ← sq, i2]
    have i11 : Complex.I ^ 11 = -Complex.I := by rw [pow_succ, i10, neg_one_mul]
    rw [Complex.exp_mul_I, ← Complex.ofReal_cos, ← Complex.ofReal_sin]
    simp only [Finset.sum_range_succ, Finset.sum_range_zero, Nat.factorial, mul_pow, i2, i3, i4, i5, i6, i7, i8, i9, i10, i11]
    push_cast
    ring
  rw [e] at b
  have hb : |y| ^ 12 * (((12 : ℕ).succ : ℝ) * (((12 : ℕ).factorial : ℝ) * ((12 : ℕ) : ℝ))⁻¹) ≤ 13 / 10 ^ 11 := by
    have p : |y| ^ 12 ≤ (7854 / 10000) ^ 12 := pow_le_pow_left₀ (abs_nonneg y) hy 12
    have f : (((12 : ℕ).succ : ℝ) * (((12 : ℕ).factorial : ℝ) * ((12 : ℕ) : ℝ))⁻¹) = 13 / 5748019200 := by
      norm_num [Nat.factorial]
    rw [f]
    refine (mul_le_mul_of_nonneg_right p (by norm_num)).trans ?_
    norm_num
  refine le_trans (le_trans (le_of_eq ?_) (Complex.abs_re_le_norm _)) (b.trans hb)
  simp [-Complex.ofReal_sub, -Complex.ofReal_cos, -Complex.ofReal_sin]

/-- Half pi to eight digits: the cosine is positive on one side of it and negative on the other. -/
theorem half_pi : 157079632 / 10 ^ 8 < Real.pi / 2 ∧ Real.pi / 2 < 157079633 / 10 ^ 8 := by
  have two := Real.two_le_pi
  constructor
  · by_contra! h
    have n := Real.cos_nonpos_of_pi_div_two_le_of_le h (by linarith)
    have t := taylor_ten (157079632 / 10 ^ 8 / 2) (by rw [abs_of_pos (by norm_num)]; norm_num)
    have d := Real.cos_two_mul (157079632 / 10 ^ 8 / 2)
    rw [show (2 : ℝ) * (157079632 / 10 ^ 8 / 2) = 157079632 / 10 ^ 8 by ring] at d
    have l := (abs_le.mp t).1
    have l' : (0.707106782 : ℝ) ≤ Real.cos (157079632 / 10 ^ 8 / 2) := by linarith
    nlinarith
  · by_contra! h
    have n := Real.cos_nonneg_of_neg_pi_div_two_le_of_le (by linarith) h
    have t := taylor_ten (157079633 / 10 ^ 8 / 2) (by rw [abs_of_pos (by norm_num)]; norm_num)
    have d := Real.cos_two_mul (157079633 / 10 ^ 8 / 2)
    rw [show (2 : ℝ) * (157079633 / 10 ^ 8 / 2) = 157079633 / 10 ^ 8 by ring] at d
    have u := (abs_le.mp t).2
    have u' : Real.cos (157079633 / 10 ^ 8 / 2) ≤ (0.707106781 : ℝ) := by linarith
    have p : 0 ≤ Real.cos (157079633 / 10 ^ 8 / 2) := Real.cos_nonneg_of_neg_pi_div_two_le_of_le (by linarith) (by linarith)
    nlinarith

/-- Sines and cosines of near numbers are near. -/
theorem sin_tiny (t : ℝ) (h : |t| ≤ 192 / 10 ^ 8) : |Real.sin t| ≤ 193 / 10 ^ 8 := by
  have b := Real.sin_bound (x := t) (by linarith)
  have p3 : |t ^ 3| ≤ (192 / 10 ^ 8) ^ 3 := by rw [abs_pow]; exact pow_le_pow_left₀ (abs_nonneg t) h 3
  have p5 : |t| ^ 5 ≤ (192 / 10 ^ 8) ^ 5 := pow_le_pow_left₀ (abs_nonneg t) h 5
  rw [abs_le] at b p3 h ⊢
  constructor <;> linarith [b.1, b.2, p3.1, p3.2, h.1, h.2]

theorem sin_near (y z : ℝ) (h : |y - z| ≤ 384 / 10 ^ 8) : |Real.sin y - Real.sin z| ≤ 386 / 10 ^ 8 := by
  have t := sin_tiny ((y - z) / 2) (by rw [abs_div, abs_two]; linarith)
  rw [Real.sin_sub_sin, abs_mul, abs_mul, abs_two]
  nlinarith [Real.abs_cos_le_one ((y + z) / 2), abs_nonneg (Real.sin ((y - z) / 2)), abs_nonneg (Real.cos ((y + z) / 2))]

theorem cos_near (y z : ℝ) (h : |y - z| ≤ 384 / 10 ^ 8) : |Real.cos y - Real.cos z| ≤ 386 / 10 ^ 8 := by
  have t := sin_tiny ((y - z) / 2) (by rw [abs_div, abs_two]; linarith)
  rw [Real.cos_sub_cos, abs_mul, abs_mul, abs_neg, abs_two]
  nlinarith [Real.abs_sin_le_one ((y + z) / 2), abs_nonneg (Real.sin ((y - z) / 2)), abs_nonneg (Real.sin ((y + z) / 2))]

theorem pow_small (y : ℝ) (hy : |y| ≤ 7854 / 10000) (n : ℕ) : |y ^ n| ≤ 1 := by
  rw [abs_pow]
  exact pow_le_one₀ (abs_nonneg y) (by linarith)

theorem even_near (y : ℝ) (hy : |y| ≤ 7854 / 10000) : |even y - Real.cos y| ≤ 43 / 10 ^ 7 := by
  have t := (taylor y hy).1
  have p4 := abs_le.mp (pow_small y hy 4)
  have p6 := abs_le.mp (pow_small y hy 6)
  rw [abs_le] at t ⊢
  unfold even
  constructor <;> linarith [t.1, t.2, p4.1, p4.2, p6.1, p6.2]

theorem odd_near (y : ℝ) (hy : |y| ≤ 7854 / 10000) : |odd y - Real.sin y| ≤ 43 / 10 ^ 7 := by
  have t := (taylor y hy).2
  have p3 := abs_le.mp (pow_small y hy 3)
  have p5 := abs_le.mp (pow_small y hy 5)
  have p7 := abs_le.mp (pow_small y hy 7)
  rw [abs_le] at t ⊢
  unfold odd
  constructor <;> linarith [t.1, t.2, p3.1, p3.2, p5.1, p5.2, p7.1, p7.2]

/-- The sine by quarters of a turn. -/
theorem sin_quarters (y : ℝ) (n : ℤ) : Real.sin (y + n * (Real.pi / 2)) =
    if n % 4 = 0 then Real.sin y else if n % 4 = 1 then Real.cos y else if n % 4 = 2 then -Real.sin y else -Real.cos y := by
  have e : (n : ℝ) = 4 * ((n / 4 : ℤ) : ℝ) + ((n % 4 : ℤ) : ℝ) := by
    have h : n = 4 * (n / 4) + n % 4 := by omega
    exact_mod_cast h
  have l := Int.emod_nonneg n (by norm_num : (4 : ℤ) ≠ 0)
  have u := Int.emod_lt_of_pos n (by norm_num : (0 : ℤ) < 4)
  rw [show y + n * (Real.pi / 2) = y + ((n % 4 : ℤ) : ℝ) * (Real.pi / 2) + ((n / 4 : ℤ) : ℝ) * (2 * Real.pi) by rw [e]; push_cast; ring,
    Real.sin_add_int_mul_two_pi]
  generalize n % 4 = q at l u ⊢
  interval_cases q
  · simp
  · simp [Real.sin_add_pi_div_two]
  · simp [show y + 2 * (Real.pi / 2) = y + Real.pi by ring, Real.sin_add_pi]
  · simp [show y + 3 * (Real.pi / 2) = y + Real.pi / 2 + Real.pi by ring, Real.sin_add_pi, Real.sin_add_pi_div_two]

/-- Up to 120 the polynomial sine is within `1e-5`, as a float word, of the sine. -/
theorem quarter_near (x : ℝ) (h0 : 0 ≤ x) (h1 : x ≤ 120) : |quarter x - Real.sin x| < 10995116 / 2 ^ 40 := by
  have lo : ((turns x : ℤ) : ℝ) ≤ x * perTurn + 1 / 2 := Int.floor_le _
  have hi : x * perTurn + 1 / 2 < (turns x : ℤ) + 1 := Int.lt_floor_add_one _
  have n0 : (0 : ℤ) ≤ turns x := Int.floor_nonneg.mpr (by unfold perTurn; positivity)
  have n1 : turns x ≤ 76 := by
    have : ((turns x : ℤ) : ℝ) < 77 := lt_of_le_of_lt lo (by unfold perTurn; linarith)
    have : turns x < 77 := by exact_mod_cast this
    omega
  have n0' : (0 : ℝ) ≤ (turns x : ℤ) := by exact_mod_cast n0
  have n1' : ((turns x : ℤ) : ℝ) ≤ 76 := by exact_mod_cast n1
  have hy : |rest x| ≤ 7854 / 10000 := by
    rw [abs_le]
    unfold rest turn
    unfold perTurn at lo hi
    constructor <;> linarith
  obtain ⟨pl, pu⟩ := half_pi
  have hd : |rest x - (x - turns x * (Real.pi / 2))| ≤ 384 / 10 ^ 8 := by
    have e : rest x - (x - turns x * (Real.pi / 2)) = -((turns x : ℝ) * (turn - Real.pi / 2)) := by unfold rest; ring
    have d0 : 0 ≤ turn - Real.pi / 2 := by unfold turn; linarith
    have d1 : turn - Real.pi / 2 ≤ 5052 / 10 ^ 11 := by unfold turn; linarith
    rw [e, abs_neg, abs_of_nonneg (mul_nonneg n0' d0)]
    refine (mul_le_mul n1' d1 d0 (by norm_num)).trans ?_
    norm_num
  have hs : Real.sin x = Real.sin (x - turns x * (Real.pi / 2) + (turns x : ℤ) * (Real.pi / 2)) := by congr 1; ring
  rw [hs, sin_quarters]
  unfold quarter
  generalize x - turns x * (Real.pi / 2) = z at hd ⊢
  generalize rest x = y at hd hy ⊢
  have o : |odd y - Real.sin z| < 10995116 / 2 ^ 40 := by
    have a := odd_near y hy
    have b := sin_near y z hd
    have c := abs_sub_le (odd y) (Real.sin y) (Real.sin z)
    refine lt_of_le_of_lt (c.trans (add_le_add a b)) (by norm_num)
  have v : |even y - Real.cos z| < 10995116 / 2 ^ 40 := by
    have a := even_near y hy
    have b := cos_near y z hd
    have c := abs_sub_le (even y) (Real.cos y) (Real.cos z)
    refine lt_of_le_of_lt (c.trans (add_le_add a b)) (by norm_num)
  split_ifs
  · exact o
  · exact v
  · rwa [show -odd y - -Real.sin z = -(odd y - Real.sin z) by ring, abs_neg]
  · rwa [show -even y - -Real.cos z = -(even y - Real.cos z) by ring, abs_neg]

end Cert.Sine

end
-- ==== Proof.Accuracy.lean ====
/-
  The polynomial sine as a program: what it leaves in its result is, entry by entry, the sine the reference takes, and that
  is near the sine.
-/
module

public import proofs.«01_k».proof.Defs
public import proofs.«01_k».proof.Proof.Gen.QuarterSineIdeal
public import Idealize.ShloMosaic.Lib.StableHlo.Run
public import proofs.«01_k».proof.Proof.Gen.Pre_phases
public import proofs.«01_k».proof.Proof.Gen.Post_near_sin
public import proofs.«01_k».proof.Proof.Sine

@[expose] public section

set_option maxRecDepth 16384

noncomputable section

namespace Cert.QuarterSineIdeal.Net

open Cert.QuarterSineIdeal Cert.QuarterSineIdeal.Gen Idealize.ShloMosaic Idealize.ShloMosaic.TcCoe Idealize.SL.Sem Idealize.ShloMosaic.StableHlo
open Cert.ReferenceIdeal.Net (turnsE restE oddE evenE chooseE quarterE)

/-! ## The run -/

section ops

variable {F : FTy → Type} [FloatOps F]

/-- The contents of a buffer of one float, and of one bit. -/
abbrev One (F : FTy → Type) : Type := (⟨S_, .f32⟩ : BufTy).Contents (Elt F)
@[inherit_doc One] abbrev Bit (F : FTy → Type) : Type := (⟨S_, .i1⟩ : BufTy).Contents (Elt F)

/-- The program's operations, in order. -/
abbrev ops : List (HloOp τ sig (Elt F)) :=
  [ nullary main_cst (constant S_ .f32 0x3F22F983#32),
    binary main_arg0 main_cst main_v0 (mulf : One F → One F → One F),
    nullary main_cst_0 (constant S_ .f32 0x3F000000#32),
    binary main_v0 main_cst_0 main_v1 (addf : One F → One F → One F),
    unary main_v1 main_v2 (Host.floor : One F → One F),
    nullary main_cst_1 (constant S_ .f32 0x3FC90FDB#32),
    binary main_v2 main_cst_1 main_v3 (mulf : One F → One F → One F),
    binary main_arg0 main_v3 main_v4 (subf : One F → One F → One F),
    binary main_v4 main_v4 main_v5 (mulf : One F → One F → One F),
    binary main_v5 main_v4 main_v6 (mulf : One F → One F → One F),
    nullary main_cst_2 (constant S_ .f32 0x3E2AAAAB#32),
    binary main_cst_2 main_v6 main_v7 (mulf : One F → One F → One F),
    binary main_v4 main_v7 main_v8 (subf : One F → One F → One F),
    binary main_v4 main_v4 main_v9 (mulf : One F → One F → One F),
    binary main_v9 main_v9 main_v10 (mulf : One F → One F → One F),
    binary main_v4 main_v10 main_v11 (mulf : One F → One F → One F),
    nullary main_cst_3 (constant S_ .f32 0x3C088886#32),
    binary main_cst_3 main_v11 main_v12 (mulf : One F → One F → One F),
    binary main_v8 main_v12 main_v13 (addf : One F → One F → One F),
    binary main_v4 main_v4 main_v14 (mulf : One F → One F → One F),
    binary main_v4 main_v14 main_v15 (mulf : One F → One F → One F),
    binary main_v14 main_v14 main_v16 (mulf : One F → One F → One F),
    binary main_v15 main_v16 main_v17 (mulf : One F → One F → One F),
    nullary main_cst_4 (constant S_ .f32 0x39500C03#32),
    binary main_cst_4 main_v17 main_v18 (mulf : One F → One F → One F),
    binary main_v13 main_v18 main_v19 (subf : One F → One F → One F),
    binary main_v4 main_v4 main_v20 (mulf : One F → One F → One F),
    nullary main_cst_5 (constant S_ .f32 0x3F000000#32),
    binary main_cst_5 main_v20 main_v21 (mulf : One F → One F → One F),
    nullary main_cst_6 (constant S_ .f32 0x3F800000#32),
    binary main_cst_6 main_v21 main_v22 (subf : One F → One F → One F),
    binary main_v4 main_v4 main_v23 (mulf : One F → One F → One F),
    binary main_v23 main_v23 main_v24 (mulf : One F → One F → One F),
    nullary main_cst_7 (constant S_ .f32 0x3D2AAAA4#32),
    binary main_cst_7 main_v24 main_v25 (mulf : One F → One F → One F),
    binary main_v22 main_v25 main_v26 (addf : One F → One F → One F),
    binary main_v4 main_v4 main_v27 (mulf : One F → One F → One F),
    binary main_v27 main_v27 main_v28 (mulf : One F → One F → One F),
    binary main_v27 main_v28 main_v29 (mulf : One F → One F → One F),
    nullary main_cst_8 (constant S_ .f32 0x3AB6061A#32),
    binary main_cst_8 main_v29 main_v30 (mulf : One F → One F → One F),
    binary main_v26 main_v30 main_v31 (subf : One F → One F → One F),
    nullary main_cst_9 (constant S_ .f32 0x40800000#32),
    binary main_v2 main_cst_9 main_v32 (Host.divf : One F → One F → One F),
    unary main_v32 main_v33 (Host.floor : One F → One F),
    nullary main_cst_10 (constant S_ .f32 0x40800000#32),
    binary main_cst_10 main_v33 main_v34 (mulf : One F → One F → One F),
    binary main_v2 main_v34 main_v35 (subf : One F → One F → One F),
    nullary main_cst_11 (constant S_ .f32 0x00000000#32),
    binary main_v35 main_cst_11 main_v36 (cmpf .oeq : One F → One F → Bit F),
    nullary main_cst_12 (constant S_ .f32 0x3F800000#32),
    binary main_v35 main_cst_12 main_v37 (cmpf .oeq : One F → One F → Bit F),
    nullary main_cst_13 (constant S_ .f32 0x40000000#32),
    binary main_v35 main_cst_13 main_v38 (cmpf .oeq : One F → One F → Bit F),
    unary main_v19 main_v39 (Host.negf : One F → One F),
    unary main_v31 main_v40 (Host.negf : One F → One F),
    TRef.ternary (TRef.of (T := ⟨S_, .i1⟩) main_v38) (TRef.of (T := ⟨S_, .f32⟩) main_v39) (TRef.of (T := ⟨S_, .f32⟩) main_v40) (TRef.of (T := ⟨S_, .f32⟩) main_v41) select,
    TRef.ternary (TRef.of (T := ⟨S_, .i1⟩) main_v37) (TRef.of (T := ⟨S_, .f32⟩) main_v31) (TRef.of (T := ⟨S_, .f32⟩) main_v41) (TRef.of (T := ⟨S_, .f32⟩) main_v42) select,
    TRef.ternary (TRef.of (T := ⟨S_, .i1⟩) main_v36) (TRef.of (T := ⟨S_, .f32⟩) main_v19) (TRef.of (T := ⟨S_, .f32⟩) main_v42) (TRef.of (T := ⟨S_, .f32⟩) main_v43) select ]

theorem main_eq (c : Dev nD) : main (F := F) c = seq ops := rfl

theorem ops_sub : (ops : List (HloOp τ sig (Elt F))).Forall fun op => op.bufs ⊆ tcRefs τ sig :=
  ⟨nullary_bufs_sub .., binary_bufs_sub .., nullary_bufs_sub .., binary_bufs_sub .., unary_bufs_sub .., nullary_bufs_sub ..,
    binary_bufs_sub .., binary_bufs_sub .., binary_bufs_sub .., binary_bufs_sub .., nullary_bufs_sub .., binary_bufs_sub ..,
    binary_bufs_sub .., binary_bufs_sub .., binary_bufs_sub .., binary_bufs_sub .., nullary_bufs_sub .., binary_bufs_sub ..,
    binary_bufs_sub .., binary_bufs_sub .., binary_bufs_sub .., binary_bufs_sub .., binary_bufs_sub .., nullary_bufs_sub ..,
    binary_bufs_sub .., binary_bufs_sub .., binary_bufs_sub .., nullary_bufs_sub .., binary_bufs_sub .., nullary_bufs_sub ..,
    binary_bufs_sub .., binary_bufs_sub .., binary_bufs_sub .., nullary_bufs_sub .., binary_bufs_sub .., binary_bufs_sub ..,
    binary_bufs_sub .., binary_bufs_sub .., binary_bufs_sub .., nullary_bufs_sub .., binary_bufs_sub .., binary_bufs_sub ..,
    nullary_bufs_sub .., binary_bufs_sub .., unary_bufs_sub .., nullary_bufs_sub .., binary_bufs_sub .., binary_bufs_sub ..,
    nullary_bufs_sub .., binary_bufs_sub .., nullary_bufs_sub .., binary_bufs_sub .., nullary_bufs_sub .., binary_bufs_sub ..,
    unary_bufs_sub .., unary_bufs_sub .., ternary_bufs_sub .., ternary_bufs_sub .., ternary_bufs_sub ..⟩

end ops

/-- The program runs, leaves its argument as it was and its result at the polynomial sine. -/
theorem run_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) =
        (fun j : S_.Idx => quarterE ((m ((c.tc : Thread nD τ).loc main_arg0) : FVec Ideal S_ .f32) j))
      ∧ r.2.mem ((c.tc : Thread nD τ).loc main_arg0) = m ((c.tc : Thread nD τ).loc main_arg0) := by
  refine (θ_run defs _ _).mono (fun r h c => ⟨(h c main_v43).trans ?_, (h c main_arg0).trans ?_⟩)
    (run_seq (by decide) (by decide) defs main (fun _ => ops) main_eq (fun _ => ops_sub) m ρ)
  · simp only [ops, TRef.ternary, TRef.toBuf, TRef.ofBuf, cast_eq]
    after_results_simp
    funext j
    pointwise [quarterE, chooseE, oddE, evenE, restE, turnsE]
  · simp only [ops, TRef.ternary, TRef.toBuf, TRef.ofBuf, cast_eq]
    after_results_simp

/-! ## The claim -/

/-- What the precondition says of a phase. -/
theorem phases_says (x : FVec Ideal S_ .f32) (h : Cert.Pre_phases.fn (F := Ideal) x = fun _ => 1#1) (j : S_.Idx) :
    ∃ y : ℝ, (x j : EReal) = (y : EReal) ∧ 0 ≤ y ∧ y ≤ 120 := by
  have e := congrFun h j
  pointwise [Cert.Pre_phases.fn] at e
  have top : Ideal.ofBits .f32 0x42F00000#32 = ((120 : ℝ) : EReal) := by
    simp [Ideal.ofBits, Ideal.ieee, -EReal.coe_mul]; norm_num
  rw [top] at e
  generalize (x j : EReal) = a at e ⊢
  by_cases lo : (0 : EReal) ≤ a <;> by_cases hi : a ≤ ((120 : ℝ) : EReal) <;> simp [lo, hi, IntOp.andi] at e
  obtain ⟨y, rfl⟩ : ∃ y : ℝ, a = (y : EReal) :=
    ⟨a.toReal, (EReal.coe_toReal (fun e => by simp [e] at hi) (fun e => by simp [e] at lo)).symm⟩
  exact ⟨y, rfl, by exact_mod_cast lo, by exact_mod_cast hi⟩

/-- A real number near the sine passes the test of the postcondition. -/
theorem passes (y z : ℝ) (h : |z - Real.sin y| < 10995116 / 2 ^ 40) :
    (FloatOps.absf (F := Ideal) (φ := .f32) ((z : EReal) - Ideal.sin (y : EReal)) : EReal) < Ideal.ofBits .f32 0x3727C5AC#32 := by
  have w : Ideal.ofBits .f32 0x3727C5AC#32 = ((10995116 / 2 ^ 40 : ℝ) : EReal) := by
    simp [Ideal.ofBits, Ideal.ieee, -EReal.coe_mul]; norm_num
  rw [w, show Ideal.sin (y : EReal) = ((Real.sin y : ℝ) : EReal) from rfl, ← EReal.coe_sub]
  rw [abs_lt] at h
  show max ((z - Real.sin y : ℝ) : EReal) (-((z - Real.sin y : ℝ) : EReal)) < _
  rw [← EReal.coe_neg]
  exact max_lt (EReal.coe_lt_coe_iff.mpr h.2) (EReal.coe_lt_coe_iff.mpr (by linarith [h.1]))

/-- The polynomial sine is near the sine at every phase admitted. -/
theorem near : Cert.holds_QuarterSineIdeal_near_sin_pre_phases := by
  intro m g hm
  refine (θ_run defs _ _).mono (fun r h c => ⟨(h c).2, ?_⟩) (run_eq m g)
  rw [(h c).1]
  funext j
  obtain ⟨y, hy, lo, hi⟩ := phases_says _ (hm c) j
  have p := passes y _ (Cert.Sine.quarter_near y lo hi)
  rw [← Cert.Sine.quarterE_coe, ← hy] at p
  pointwise [Cert.Post_near_sin.fn]
  exact congrArg BitVec.ofBool (decide_eq_true p)

end Cert.QuarterSineIdeal.Net

end
-- ==== Proof.Row.lean ====
/-
  The kernel's result and the reference's at one entry are the same number.
-/
module

public import proofs.«01_k».proof.Proof.Facts

@[expose] public section

set_option maxRecDepth 16384

noncomputable section

namespace Cert.Rows

open Idealize.ShloMosaic Cert.KernelIdeal.Net Cert.ReferenceIdeal.Net

/-! ## Layers of a row whose only species is `s` -/

/-- Block `s` of 128 numbers holds half of `x`, the rest is zero. -/
def lane (s : Fin 4) (x : Fin 32 → ℝ) (i : Fin 128) : EReal :=
  if i.val / 32 = s then ((1 / 2 * x ⟨i % 32, by omega⟩ : ℝ) : EReal) else 0

/-- A gated lane against any matrix sees the rows of block `s` alone. -/
theorem lane_layer {N : ℕ} (s : Fin 4) (x : Fin 32 → ℝ) (w : Fin 128 → Fin N → EReal) (k : Fin N) :
    layer (fun i => gateE (lane s x i)) w k = ∑ j : Fin 32, (silu (x j) : EReal) * w ⟨s * 32 + j, by omega⟩ k := by
  refine block_sum 4 32 s _ _ (fun p hp => ?_) fun p j hp => ?_
  · show gateE (lane s x p) * _ = 0
    rw [lane, if_neg hp, gateE_zero, zero_mul]
  · have e : p = ⟨s * 32 + j, by omega⟩ := Fin.ext hp
    show gateE (lane s x p) * w p k = _
    rw [e]
    have h1 : (s.val * 32 + j.val) / 32 = s := by omega
    have h2 : (⟨(s.val * 32 + j.val) % 32, by omega⟩ : Fin 32) = j := Fin.ext (by show (s.val * 32 + j.val) % 32 = j; omega)
    rw [lane, if_pos h1]
    dsimp only
    rw [h2, gateE_half]

/-- The real row a layer of species `s` makes of real numbers. -/
def next {K : ℕ} (w : Fin 4 → Fin 4 → Fin K → Fin 32 → ℝ) (l s : Fin 4) (h : Fin K → ℝ) (k : Fin 32) : ℝ := ∑ j, h j * w l s j k

theorem apply_coe {K : ℕ} (W : FVec Ideal ⟨4, ![4, 4, K, 32]⟩ .f32) (w : Fin 4 → Fin 4 → Fin K → Fin 32 → ℝ)
    (hw : ∀ l s j k, W (ix4 l s j k) = (w l s j k : EReal)) (l s : Fin 4) (h : Fin K → ℝ) (k : Fin 32) :
    apply W l s (fun j => (h j : EReal)) k = next w l s h k := by
  simp only [apply, next, hw, coe_sum, EReal.coe_mul]

/-- A hidden layer of the kernel keeps a lane a lane. -/
theorem diag_layer (W : FVec Ideal Cert.KernelIdeal.S4x4x32x32 .f32) (w : Fin 4 → Fin 4 → Fin 32 → Fin 32 → ℝ)
    (hw : ∀ l s j k, W (ix4 l s j k) = (w l s j k : EReal)) (l s : Fin 4) (x : Fin 32 → ℝ) (q : Fin 128) :
    layer (fun i => gateE (lane s x i)) (diag W 4 l) q = lane s (next w l s fun j => silu (x j)) q := by
  rw [lane_layer]
  unfold diag lane
  dsimp only
  have hs (j : Fin 32) : (s.val * 32 + j.val) / 32 = s := by omega
  by_cases h : q.val / 32 = s
  · rw [if_pos h]
    have hq : (⟨q / 32, by omega⟩ : Fin 4) = s := Fin.ext h
    have h2 (j : Fin 32) : (⟨(s.val * 32 + j.val) % 32, by omega⟩ : Fin 32) = j := Fin.ext (by show (s.val * 32 + j.val) % 32 = j; omega)
    simp only [hs, h, true_and, s.isLt, if_true, h2, hw, half_value, next, Finset.mul_sum, coe_sum, ← EReal.coe_mul]
    exact Finset.sum_congr rfl fun j _ => congrArg _ (by ring)
  · rw [if_neg h]
    refine Finset.sum_eq_zero fun j _ => ?_
    rw [hs, if_neg (fun e => h e.1.symm), mul_zero]

/-- The kernel's layers behind the first, on a lane, are species `s`'s. -/
theorem tail_lane (W2 W3 : FVec Ideal Cert.KernelIdeal.S4x4x32x32 .f32) (W4 : FVec Ideal Cert.KernelIdeal.S4x4x32x10 .f32)
    (w2 w3 : Fin 4 → Fin 4 → Fin 32 → Fin 32 → ℝ) (h2 : ∀ l s j k, W2 (ix4 l s j k) = (w2 l s j k : EReal))
    (h3 : ∀ l s j k, W3 (ix4 l s j k) = (w3 l s j k : EReal)) (l s : Fin 4) (x : Fin 32 → ℝ) (k : Fin 10) :
    tailE (lane s x) (diag W2 4 l) (diag W3 4 l) (fun p k => W4 (ix4 l ⟨p / 32, by omega⟩ ⟨p % 32, by omega⟩ k)) k =
      apply W4 l s (fun j => siluE (apply W3 l s (fun j => siluE (apply W2 l s (fun j => siluE (x j)) j)) j)) k := by
  unfold tailE
  simp only [diag_layer W2 w2 h2, diag_layer W3 w3 h3, siluE_coe, apply_coe W2 w2 h2, apply_coe W3 w3 h3]
  rw [lane_layer]
  refine Finset.sum_congr rfl fun j _ => ?_
  have e1 : (⟨(s.val * 32 + j.val) / 32, by omega⟩ : Fin 4) = s := Fin.ext (by show (s.val * 32 + j.val) / 32 = s; omega)
  have e2 : (⟨(s.val * 32 + j.val) % 32, by omega⟩ : Fin 32) = j := Fin.ext (by show (s.val * 32 + j.val) % 32 = j; omega)
  dsimp only
  rw [e1, e2]

/-- With no species selected everything behind the first layer is zero. -/
theorem tail_zero (w2 w3 : Fin 128 → Fin 128 → EReal) (w4 : Fin 128 → Fin 10 → EReal) (k : Fin 10) : tailE (fun _ => 0) w2 w3 w4 k = 0 := by
  simp [tailE, layer, gateE_zero]

/-- The first layer's candidate at block `l`, species `i / 32`. -/
theorem wide_layer (W : FVec Ideal Cert.KernelIdeal.S4x4x10x32 .f32) (w : Fin 4 → Fin 4 → Fin 10 → Fin 32 → ℝ)
    (hw : ∀ l s j k, W (ix4 l s j k) = (w l s j k : EReal)) (l : Fin 4) (b : Fin 40 → EReal) (x : Fin 10 → ℝ)
    (hb : ∀ (p : Fin 40) (j : Fin 10), p.val = l * 10 + j → b p = (x j : EReal)) (i : Fin 128) :
    layer b (wide W 16) ⟨128 * l + i, by omega⟩ = ((1 / 2 * next w l ⟨i / 32, by omega⟩ x ⟨i % 32, by omega⟩ : ℝ) : EReal) := by
  have q1 : (128 * l.val + i.val) / 128 = l := by omega
  have q2 : (128 * l.val + i.val) / 32 < 16 := by omega
  have q3 : (⟨(128 * l.val + i.val) / 32 % 4, by omega⟩ : Fin 4) = ⟨i / 32, by omega⟩ := Fin.ext (by show (128 * l.val + i.val) / 32 % 4 = i / 32; omega)
  have q4 : (⟨(128 * l.val + i.val) % 32, by omega⟩ : Fin 32) = ⟨i % 32, by omega⟩ := Fin.ext (by show (128 * l.val + i.val) % 32 = i % 32; omega)
  have q5 : (⟨(128 * l.val + i.val) / 128, by omega⟩ : Fin 4) = l := Fin.ext q1
  rw [next, Finset.mul_sum, coe_sum]
  refine block_sum 4 10 l _ _ (fun p hp => ?_) fun p j hp => ?_
  · show b p * wide W 16 p _ = 0
    unfold wide
    dsimp only
    rw [if_neg (fun e => hp (e.1.trans q1)), mul_zero]
  · show b p * wide W 16 p _ = _
    have p1 : p.val / 10 = l := by omega
    have p2 : (⟨p.val % 10, by omega⟩ : Fin 10) = j := Fin.ext (by show p.val % 10 = j; omega)
    unfold wide
    dsimp only
    rw [hb p j hp, if_pos ⟨p1.trans q1.symm, q2⟩, q3, q4, q5, p2, hw, half_value, ← EReal.coe_mul, ← EReal.coe_mul]
    exact congrArg _ (by ring)

/-! ## The basis -/

/-- The two spellings of the basis agree at a radius admitted, on a real number, by any two sines that are one function of a
    real number. -/
theorem basis_eq (f g : EReal → EReal) (φ : ℝ → ℝ) (hf : ∀ x : ℝ, f x = (φ x : EReal)) (hg : ∀ x : ℝ, g x = (φ x : EReal)) (l : Fin 4) (j : Fin 10) (p : Fin 40) (hp : p.val = l * 10 + j) (ρ : ℝ) (hρ : 8796093 / 2 ^ 42 ≤ ρ) :
    ∃ b : ℝ, basisE f (Ideal.ofBits .f32 (Cert.KernelIdeal.lit0 ⟨p, by omega⟩)) (Ideal.ofBits .f32 (Cert.KernelIdeal.lit0 ⟨128 + p, by omega⟩))
        ((ρ * (1 / 5) : ℝ) : EReal) = (b : EReal) ∧
      waveE g l (Ideal.ofBits .f32 (Cert.ReferenceIdeal.lit0 (Cert.ReferenceIdeal.S4x10.rowMajor (ix2 l j)))) (scaledE (ρ : EReal)) = (b : EReal) := by
  have hr : Cert.ReferenceIdeal.S4x10.rowMajor (ix2 l j) = p := Fin.ext ((rowMajor_val2 (d := ![4, 10]) (ix2 l j) 10 rfl).trans hp.symm)
  obtain ⟨hz, h3⟩ := wave_word p
  obtain ⟨z, ez, z3⟩ := three_le h3
  have hl : (⟨p.val / 10, by omega⟩ : Fin 4) = l := Fin.ext (by show p.val / 10 = l; omega)
  rw [hr, hz, ez, power_word p, hl, small_value]
  set a : ℝ := ρ * (1 / 5) with ha
  have ea : scaledE (ρ : EReal) = (a : EReal) := by
    rw [scaledE, five_value, Ideal.div_coe (by norm_num), ← EReal.coe_mul]
  have a0 : 8796093 / 2 ^ 42 / 5 ≤ a := by rw [ha]; linarith
  clear_value a
  have za : 8796093 / 2 ^ 43 ≤ z * a := by nlinarith
  have zn : z * a ≠ 0 := by
    have : (0 : ℝ) < 8796093 / 2 ^ 43 := by norm_num
    linarith
  refine ⟨φ (z * a) * (1 / (z * a)) * a ^ (l : ℕ), ?_, ?_⟩
  · unfold basisE
    rw [← EReal.coe_mul, hf, Ideal.div_coe zn]
    have two : Ideal.ofBits .f32 0x40000000#32 = ((2 : ℝ) : EReal) := by simpa [small] using small_value 2
    rw [two, EReal.coe_mul, EReal.coe_mul]
    congr 1
    fin_cases l
    · simp
    · simp
    · norm_cast; simp [pow_two]
    · norm_cast; simp [pow_succ]
  · unfold waveE
    rw [ea, floor_value, ← EReal.coe_mul, max_eq_left (EReal.coe_le_coe_iff.mpr za), hg, Ideal.div_coe zn, EReal.coe_mul, EReal.coe_mul]
    congr 1
    fin_cases l
    · simp [powE]
    · simp [powE]
    · norm_cast; simp [powE, pow_two]
    · norm_cast; simp [powE, pow_succ]

/-! ## One entry -/

/-- Species and radius come back out of their packed sum. -/
theorem unpack (ρ : ℝ) (h0 : 0 ≤ ρ) (h1 : ρ < 16) (σ : ℤ) : ⌊(ρ + 16 * σ) * (1 / 16)⌋ = σ := by
  rw [Int.floor_eq_iff]
  constructor <;> linarith

theorem real_of_abs_lt {x : EReal} (h : max x (-x) < ⊤) : ∃ y : ℝ, x = (y : EReal) :=
  ⟨x.toReal, (EReal.coe_toReal (fun e => by simp [e] at h) (fun e => by simp [e] at h)).symm⟩

theorem entry_eq (f g : EReal → EReal) (φ : ℝ → ℝ) (hf : ∀ x : ℝ, f x = (φ x : EReal)) (hg : ∀ x : ℝ, g x = (φ x : EReal))
    (r : FVec Ideal Cert.KernelIdeal.S160000 .f32) (sp : IVec Cert.KernelIdeal.S160000 32)
    (W1 : FVec Ideal Cert.KernelIdeal.S4x4x10x32 .f32) (W2 W3 : FVec Ideal Cert.KernelIdeal.S4x4x32x32 .f32)
    (W4 : FVec Ideal Cert.KernelIdeal.S4x4x32x10 .f32)
    (hr : ∀ n, Ideal.ofBits .f32 0x360637BD#32 ≤ (r (ix1 n) : EReal) ∧ (r (ix1 n) : EReal) < Ideal.ofBits .f32 0x41800000#32)
    (h1 : ∀ l s j k, ∃ y : ℝ, W1 (ix4 l s j k) = (y : EReal)) (h2 : ∀ l s j k, ∃ y : ℝ, W2 (ix4 l s j k) = (y : EReal))
    (h3 : ∀ l s j k, ∃ y : ℝ, W3 (ix4 l s j k) = (y : EReal)) (l : Fin 4) (n : Fin 160000) (k : Fin 10) :
    kernelE f r sp W1 W2 W3 W4 l n k = refE g r sp W1 W2 W3 W4 l n k := by
  choose w1 hw1 using h1
  choose w2 hw2 using h2
  choose w3 hw3 using h3
  obtain ⟨lo, hi⟩ := hr n
  rw [least_value] at lo
  rw [sixteen_value] at hi
  obtain ⟨ρ, hρ⟩ : ∃ ρ : ℝ, (r (ix1 n) : EReal) = (ρ : EReal) :=
    ⟨(r (ix1 n) : EReal).toReal, (EReal.coe_toReal (fun e => by simp [e] at hi) (fun e => by simp [e] at lo)).symm⟩
  rw [hρ] at lo hi
  have lo' : 8796093 / 2 ^ 42 ≤ ρ := EReal.coe_le_coe_iff.mp lo
  have hi' : ρ < 16 := EReal.coe_lt_coe_iff.mp hi
  choose b hk hw using fun j : Fin 10 => basis_eq f g φ hf hg l j ⟨l * 10 + j, by omega⟩ rfl ρ lo'
  have hn : Named.named (F := Ideal) Cert.KernelIdeal.κ "inv_r_cut" (φ := .f32) 0x3E4CCCCD#32 = ((1 / 5 : ℝ) : EReal) :=
    IdealRules.named_const.ideal_named_scalar _ _ _ _ rfl
  generalize hσ : (sp (ix1 n)).toInt = σ
  have hs : FloatOps.sitofp (F := Ideal) .f32 (sp (ix1 n)) = ((σ : ℝ) : EReal) := by rw [← hσ]; rfl
  have hfl : Ideal.liftRound Int.floor ((((ρ + 16 * σ) * (1 / 16) : ℝ)) : EReal) = ((σ : ℝ) : EReal) := by
    show (((⌊(ρ + 16 * σ) * (1 / 16)⌋ : ℤ) : ℝ) : EReal) = _
    rw [unpack ρ (le_trans (by norm_num) lo') hi']
  have hch (i : Fin 128) : Ideal.ofBits .f32 (Cert.KernelIdeal.lit0 ⟨256 + i, by omega⟩) = ((σ : ℝ) : EReal) ↔ ((i.val / 32 : ℕ) : ℤ) = σ := by
    rw [species_word i, small_value, EReal.coe_eq_coe_iff]
    show ((i.val / 32 : ℕ) : ℝ) = σ ↔ _
    rw [← Int.cast_natCast (R := ℝ) (i.val / 32), Int.cast_inj]
  unfold kernelE netE
  dsimp only
  rw [hρ, hs, hn, sixteen_value, sixteenth_value]
  simp only [← EReal.coe_mul, ← EReal.coe_add, hfl, ← EReal.coe_sub]
  rw [show (ρ + 16 * (σ : ℝ) - 16 * σ) * (1 / 5) = ρ * (1 / 5) by ring]
  simp only [hch]
  simp only [wide_layer W1 w1 hw1 l (fun p => basisE f (Ideal.ofBits .f32 (Cert.KernelIdeal.lit0 ⟨p, by omega⟩))
    (Ideal.ofBits .f32 (Cert.KernelIdeal.lit0 ⟨128 + p, by omega⟩)) ((ρ * (1 / 5) : ℝ) : EReal)) b (fun p j hp => by rw [show p = ⟨l * 10 + j, by omega⟩ from Fin.ext hp]; exact hk j)]
  unfold refE mlpE
  rw [hρ]
  simp only [hw, apply_coe W1 w1 hw1]
  by_cases h : ∃ s : Fin 4, σ = (s.val : ℤ)
  · obtain ⟨s, rfl⟩ := h
    have hu : (fun i : Fin 128 => if ((i.val / 32 : ℕ) : ℤ) = (s.val : ℤ) then
        ((1 / 2 * next w1 l ⟨i / 32, by omega⟩ b ⟨i % 32, by omega⟩ : ℝ) : EReal) else 0) = lane s (next w1 l s b) := by
      funext i
      unfold lane
      by_cases e : i.val / 32 = s
      · rw [if_pos e, if_pos (congrArg _ e), show (⟨i / 32, by omega⟩ : Fin 4) = s from Fin.ext e]
      · rw [if_neg e, if_neg (fun e' => e (by exact_mod_cast e'))]
    rw [hu, tail_lane W2 W3 W4 w2 w3 hw2 hw3]
    have hw : sp (ix1 n) = BitVec.ofNat 32 s := BitVec.eq_of_toInt_eq (by rw [hσ]; fin_cases s <;> rfl)
    rw [hw]
    fin_cases s <;> rfl
  · have hu : (fun i : Fin 128 => if ((i.val / 32 : ℕ) : ℤ) = σ then
        ((1 / 2 * next w1 l ⟨i / 32, by omega⟩ b ⟨i % 32, by omega⟩ : ℝ) : EReal) else 0) = fun _ => 0 :=
      funext fun i => if_neg fun e => h ⟨⟨i / 32, by omega⟩, e.symm⟩
    rw [hu, tail_zero]
    have hne (s : Fin 4) (b : BitVec 32) (hb : b.toInt = s.val) : sp (ix1 n) ≠ b := fun e => h ⟨s, by rw [← hσ, e, hb]⟩
    rw [if_neg (hne 3 _ rfl), if_neg (hne 2 _ rfl), if_neg (hne 1 _ rfl), if_neg (hne 0 _ rfl)]

end Cert.Rows

end
-- ==== Proof.Claims.lean ====
/-
  The claims, one by one.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.KernelSin.Frame
public import proofs.«01_k».proof.Proof.Gen.KernelSinIdeal.Frame
public import proofs.«01_k».proof.Proof.Gen.KernelSinIdeal.Value
public import proofs.«01_k».proof.Proof.Gen.Pre_admitted
public import proofs.«01_k».proof.Proof.Gen.Pre_phases
public import proofs.«01_k».proof.Proof.Gen.Post_near_sin
public import proofs.«01_k».proof.Proof.LaunchSin
public import proofs.«01_k».proof.Proof.ReferenceSin
public import proofs.«01_k».proof.Proof.Accuracy
public import proofs.«01_k».proof.Proof.Row

@[expose] public section

set_option maxRecDepth 16384

noncomputable section

namespace Cert.Proof

open Idealize.ShloMosaic Idealize.SL.Sem

theorem frame_p : Cert.quiescent_Kernel := fun m g _ => Cert.Kernel.Gen.frame m g

theorem frame_pi : Cert.quiescent_KernelIdeal := fun m g _ => Cert.KernelIdeal.Gen.frame m g

theorem frame_pi_admitted : Cert.quiescent_KernelIdeal_pre_admitted := fun m g _ => Cert.KernelIdeal.Gen.frame m g

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_admitted : Cert.quiescent_ReferenceIdeal_pre_admitted := fun m g _ => frame_ri m g trivial

theorem frame_ps : Cert.quiescent_KernelSin := fun m g _ => Cert.KernelSin.Gen.frame m g

theorem frame_psi : Cert.quiescent_KernelSinIdeal := fun m g _ => Cert.KernelSinIdeal.Gen.frame m g

theorem frame_psi_admitted : Cert.quiescent_KernelSinIdeal_pre_admitted := fun m g _ => Cert.KernelSinIdeal.Gen.frame m g

theorem frame_rsi : Cert.quiescent_ReferenceSinIdeal := fun m g _ =>
  (θ_run Cert.ReferenceSinIdeal.defs _ _).mono (fun r h => ⟨fun c => (h c).2, sem_eq_zero_of_no_sems (by decide) r.2⟩)
    (Cert.ReferenceSinIdeal.Value.run (F := Ideal) m g)

theorem frame_rsi_admitted : Cert.quiescent_ReferenceSinIdeal_pre_admitted := fun m g _ => frame_rsi m g trivial

theorem frame_qi : Cert.quiescent_QuarterSineIdeal := fun m g _ =>
  (θ_run Cert.QuarterSineIdeal.defs _ _).mono (fun r h => ⟨fun c => (h c).2, sem_eq_zero_of_no_sems (by decide) r.2⟩)
    (Cert.QuarterSineIdeal.Net.run_eq m g)

theorem frame_qi_phases : Cert.quiescent_QuarterSineIdeal_pre_phases := fun m g _ => frame_qi m g trivial

/-- The constant named is one fifth. -/
theorem preserves : Cert.preserves_Kernel_KernelIdeal :=
  IdealRules.named_const.statement Cert.KernelIdeal.κ "inv_r_cut" .f32 0x3E4CCCCD#32 ((1 / 5 : ℝ) : EReal) rfl

@[inherit_doc preserves] theorem preserves_sin : Cert.preserves_KernelSin_KernelSinIdeal :=
  IdealRules.named_const.statement Cert.KernelSinIdeal.κ "inv_r_cut" .f32 0x3E4CCCCD#32 ((1 / 5 : ℝ) : EReal) rfl

/-- An absolute value below infinity is a real number's. -/
theorem real_of_finite {x : EReal}
    (h : BitVec.ofBool (decide ((FloatOps.absf (F := Ideal) (φ := .f32) x : EReal) < Ideal.ofBits .f32 0x7F800000#32)) = 1#1) : ∃ y : ℝ, x = (y : EReal) := by
  rw [Cert.Rows.inf_value] at h
  by_cases e : (FloatOps.absf (F := Ideal) (φ := .f32) x : EReal) < ⊤
  · exact Cert.Rows.real_of_abs_lt e
  · simp [e] at h

/-- What the precondition says of the arguments. -/
theorem admitted_says (r : FVec Ideal Cert.KernelIdeal.S160000 .f32) (sp : IVec Cert.KernelIdeal.S160000 32)
    (W1 : FVec Ideal Cert.KernelIdeal.S4x4x10x32 .f32) (W2 W3 : FVec Ideal Cert.KernelIdeal.S4x4x32x32 .f32)
    (W4 : FVec Ideal Cert.KernelIdeal.S4x4x32x10 .f32)
    (h : (Cert.Pre_admitted.fn (F := Ideal) r sp W1 W2 W3 W4).1 = (fun _ => 1#1) ∧
      (Cert.Pre_admitted.fn (F := Ideal) r sp W1 W2 W3 W4).2.1 = (fun _ => 1#1) ∧
      (Cert.Pre_admitted.fn (F := Ideal) r sp W1 W2 W3 W4).2.2.1 = (fun _ => 1#1) ∧
      (Cert.Pre_admitted.fn (F := Ideal) r sp W1 W2 W3 W4).2.2.2 = fun _ => 1#1) :
    (∀ n, Ideal.ofBits .f32 0x360637BD#32 ≤ (r (ix1 n) : EReal) ∧ (r (ix1 n) : EReal) < Ideal.ofBits .f32 0x41800000#32) ∧
    (∀ l s j k, ∃ y : ℝ, W1 (ix4 l s j k) = (y : EReal)) ∧ (∀ l s j k, ∃ y : ℝ, W2 (ix4 l s j k) = (y : EReal)) ∧
    ∀ l s j k, ∃ y : ℝ, W3 (ix4 l s j k) = (y : EReal) := by
  obtain ⟨h0, h1, h2, h3⟩ := h
  refine ⟨fun n => ?_, fun l s j k => ?_, fun l s j k => ?_, fun l s j k => ?_⟩
  · have e := congrFun h0 (ix1 n)
    pointwise [Cert.Pre_admitted.fn] at e
    by_cases lo : Ideal.ofBits .f32 0x360637BD#32 ≤ (r (ix1 n) : EReal) <;> by_cases hi : (r (ix1 n) : EReal) < Ideal.ofBits .f32 0x41800000#32 <;>
      simp [lo, hi, IntOp.andi] at e ⊢
  · have e := congrFun h1 (ix4 l s j k)
    pointwise [Cert.Pre_admitted.fn] at e
    exact real_of_finite e
  · have e := congrFun h2 (ix4 l s j k)
    pointwise [Cert.Pre_admitted.fn] at e
    exact real_of_finite e
  · have e := congrFun h3 (ix4 l s j k)
    pointwise [Cert.Pre_admitted.fn] at e
    exact real_of_finite e

/-- The kernel's result array and the reference's are equal at every entry. -/
theorem algebraic : Cert.algebraic_KernelIdeal_ReferenceIdeal_pre_admitted := by
  intro m g m' g' hm hagree
  refine ⟨_, Cert.KernelIdeal.Value.run_blocks (F := Ideal) m g, ?_⟩
  refine (θ_run Cert.ReferenceIdeal.defs _ _).mono (fun _ h c => ⟨(h c).1.trans ?_, (h c).2⟩) (Cert.ReferenceIdeal.Net.run_eq m' g')
  obtain ⟨e0, e1, e2, e3, e4, e5⟩ := hagree c
  obtain ⟨hr, h1, h2, h3⟩ := admitted_says _ _ _ _ _ _ (hm c)
  rw [Cert.KernelIdeal.Net.array_eq]
  funext j
  simp only [Cert.ReferenceIdeal.Net.argR, Cert.ReferenceIdeal.Net.argS, Cert.ReferenceIdeal.Net.argW1, Cert.ReferenceIdeal.Net.argW2,
    Cert.ReferenceIdeal.Net.argW3, Cert.ReferenceIdeal.Net.argW4, e0, e1, e2, e3, e4, e5]
  exact (Cert.Rows.entry_eq _ _ Cert.Sine.quarter Cert.Sine.turnedE_coe Cert.Sine.quarterE_coe _ _ _ _ _ _ hr h1 h2 h3 _ _ _).symm

/-- The same of the kernel on `sin` and the reference on `sin`. -/
theorem algebraic_sin : Cert.algebraic_KernelSinIdeal_ReferenceSinIdeal_pre_admitted := by
  intro m g m' g' hm hagree
  refine ⟨_, Cert.KernelSinIdeal.Value.run_blocks (F := Ideal) m g, ?_⟩
  refine (θ_run Cert.ReferenceSinIdeal.defs _ _).mono (fun _ h c => ⟨(h c).1.trans ?_, (h c).2⟩) (Cert.ReferenceSinIdeal.Net.run_eq m' g')
  obtain ⟨e0, e1, e2, e3, e4, e5⟩ := hagree c
  obtain ⟨hr, h1, h2, h3⟩ := admitted_says _ _ _ _ _ _ (hm c)
  rw [Cert.KernelSinIdeal.Net.array_eq]
  funext j
  simp only [Cert.ReferenceSinIdeal.Net.argR, Cert.ReferenceSinIdeal.Net.argS, Cert.ReferenceSinIdeal.Net.argW1, Cert.ReferenceSinIdeal.Net.argW2,
    Cert.ReferenceSinIdeal.Net.argW3, Cert.ReferenceSinIdeal.Net.argW4, e0, e1, e2, e3, e4, e5]
  exact (Cert.Rows.entry_eq _ _ Real.sin (fun _ => rfl) (fun _ => rfl) _ _ _ _ _ _ hr h1 h2 h3 _ _ _).symm

end Cert.Proof

end
-- ==== Proof.lean ====
/-
  The certificate's claim, for the kernel as it is and for the kernel on `sin`: the three frames, that the idealized kernel is
  the kernel with one constant named, and that the idealized kernel's result is the reference's. Then that the polynomial sine
  is near the sine.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelSin
public import proofs.«01_k».proof.Proof.Gen.KernelSinIdeal
public import proofs.«01_k».proof.Proof.Gen.ReferenceSinIdeal
public import proofs.«01_k».proof.Proof.Gen.QuarterSineIdeal
public import proofs.«01_k».proof.Proof.Gen.Pre_admitted
public import proofs.«01_k».proof.Proof.Gen.Pre_phases
public import proofs.«01_k».proof.Proof.Gen.Post_near_sin
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.KernelSin.Gen.facts,
    Cert.KernelSinIdeal.Gen.facts, Cert.ReferenceSinIdeal.Gen.facts, Cert.QuarterSineIdeal.Gen.facts, Cert.Pre_admitted.Gen.facts,
    Cert.Pre_phases.Gen.facts, Cert.Post_near_sin.Gen.facts,
    frame_p, frame_pi, frame_pi_admitted, frame_ri, frame_ri_admitted, frame_ps, frame_psi, frame_psi_admitted, frame_rsi,
    frame_rsi_admitted, frame_qi, frame_qi_phases, preserves, algebraic, preserves_sin, algebraic_sin,
    Cert.QuarterSineIdeal.Net.near⟩

end Cert.Proof

end
